-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "inv_temp" .f32 0x41200000#32 ((134217728 / 13421773 : ℝ) : EReal)
  ∧ IdealRules.named_const.Statement Cert.KernelIdeal.κ "mask30" .f32 0xF149F2CA#32 ⊥
  ∧ IdealRules.named_const.Statement Cert.KernelIdeal.κ "mask9" .f32 0xCE6E6B28#32 ⊥

def algebraic_KernelIdeal_ReferenceIdeal_on_separated_pre_finite [hKernelIdeal : Cert.KernelIdeal.Facts] [hReferenceIdeal : Cert.ReferenceIdeal.Facts] [hPre_finite : Cert.Pre_finite.Facts] [hOn_separated : Cert.On_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 577, 768]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) i = 1#1 → r.2.mem ((c.tc : Thread Cert.KernelIdeal.nD Cert.KernelIdeal.τ).loc Cert.KernelIdeal.main_v15) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 577, 768]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) i = 1#1 → r.2.mem ((c.tc : Thread Cert.ReferenceIdeal.nD Cert.ReferenceIdeal.τ).loc Cert.ReferenceIdeal.main_v217) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite : Cert.Pre_finite.Facts) (hOn_separated : Cert.On_separated.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_separated_pre_finite (hKernelIdeal := hKernelIdeal) (hReferenceIdeal := hReferenceIdeal) (hPre_finite := hPre_finite) (hOn_separated := hOn_separated)
-- ==== On_separated.lean ====
abbrev S4x577x768 : Shape := ⟨3, ![4, 577, 768]⟩
abbrev S768x768 : Shape := ⟨2, ![768, 768]⟩
abbrev S768 : Shape := ⟨1, ![768]⟩
abbrev S576x576 : Shape := ⟨2, ![576, 576]⟩
abbrev S768x2304 : Shape := ⟨2, ![768, 2304]⟩
abbrev S2304 : Shape := ⟨1, ![2304]⟩
abbrev S768x3072 : Shape := ⟨2, ![768, 3072]⟩
abbrev S3072 : Shape := ⟨1, ![3072]⟩
abbrev S3072x768 : Shape := ⟨2, ![3072, 768]⟩
abbrev S_ : Shape := ⟨0, ![]⟩
abbrev S4x577 : Shape := ⟨2, ![4, 577]⟩
abbrev S4x577x1 : Shape := ⟨3, ![4, 577, 1]⟩
abbrev S1x1x768 : Shape := ⟨3, ![1, 1, 768]⟩
abbrev S4x576x768 : Shape := ⟨3, ![4, 576, 768]⟩
abbrev S4x576 : Shape := ⟨2, ![4, 576]⟩
abbrev S4x576x1 : Shape := ⟨3, ![4, 576, 1]⟩
abbrev S4x576x576 : Shape := ⟨3, ![4, 576, 576]⟩
abbrev S1x576x576 : Shape := ⟨3, ![1, 576, 576]⟩
abbrev S4x576x33 : Shape := ⟨3, ![4, 576, 33]⟩
abbrev S4x1 : Shape := ⟨2, ![4, 1]⟩

class Facts : Prop where
  reducesTo_S4x577x768_S4x577_d2 : S4x577x768.ReducesTo [2] S4x577
  h_S_ : 0 < S_.numel
  bcast_S4x577_S4x577x1_0_1 : S4x577.BroadcastsInDim S4x577x1 (![0, 1] : Fin 2 → Fin S4x577x1.rank)
  bcast_S_S4x577x1 : S_.BroadcastsInDim S4x577x1 (![] : Fin 0 → Fin S4x577x1.rank)
  bcast_S4x577x1_S4x577x768_0_1_2 : S4x577x1.BroadcastsInDim S4x577x768 (![0, 1, 2] : Fin 3 → Fin S4x577x768.rank)
  bcast_S768_S1x1x768_2 : S768.BroadcastsInDim S1x1x768 (![2] : Fin 1 → Fin S1x1x768.rank)
  bcast_S1x1x768_S4x577x768_0_1_2 : S1x1x768.BroadcastsInDim S4x577x768 (![0, 1, 2] : Fin 3 → Fin S4x577x768.rank)
  slices_S4x577x768_S4x576x768_0_1_0 : S4x577x768.Slices ![0, 1, 0] S4x576x768
  bcast_S1x1x768_S4x576x768_0_1_2 : S1x1x768.BroadcastsInDim S4x576x768 (![0, 1, 2] : Fin 3 → Fin S4x576x768.rank)
  reducesTo_S4x576x768_S4x576_d2 : S4x576x768.ReducesTo [2] S4x576
  bcast_S4x576_S4x576x1_0_1 : S4x576.BroadcastsInDim S4x576x1 (![0, 1] : Fin 2 → Fin S4x576x1.rank)
  bcast_S_S4x576x1 : S_.BroadcastsInDim S4x576x1 (![] : Fin 0 → Fin S4x576x1.rank)
  bcast_S4x576x1_S4x576x768_0_1_2 : S4x576x1.BroadcastsInDim S4x576x768 (![0, 1, 2] : Fin 3 → Fin S4x576x768.rank)
  bcast_S576x576_S1x576x576_1_2 : S576x576.BroadcastsInDim S1x576x576 (![1, 2] : Fin 2 → Fin S1x576x576.rank)
  bcast_S1x576x576_S4x576x576_0_1_2 : S1x576x576.BroadcastsInDim S4x576x576 (![0, 1, 2] : Fin 3 → Fin S4x576x576.rank)
  bcast_S_S576x576 : S_.BroadcastsInDim S576x576 (![] : Fin 0 → Fin S576x576.rank)
  bcast_S_S4x576x576 : S_.BroadcastsInDim S4x576x576 (![] : Fin 0 → Fin S4x576x576.rank)
  sliceFits_S4x576x576_S4x576x33 : S4x576x576.Slices (fun _ => 0) S4x576x33
  slices_S4x576x33_S4x576x1_0_0_31 : S4x576x33.Slices ![0, 0, 31] S4x576x1
  shapeCasts_S4x576x1_S4x576 : S4x576x1.ShapeCasts S4x576
  slices_S4x576x33_S4x576x1_0_0_32 : S4x576x33.Slices ![0, 0, 32] S4x576x1
  bcast_S_S4x576 : S_.BroadcastsInDim S4x576 (![] : Fin 0 → Fin S4x576.rank)
  slices_S4x576x33_S4x576x1_0_0_0 : S4x576x33.Slices ![0, 0, 0] S4x576x1
  bcast_S_S4x1 : S_.BroadcastsInDim S4x1 (![] : Fin 0 → Fin S4x1.rank)
  concatenates_S4x1_S4x576_S4x577_d1 : Shape.Concatenates [S4x1, S4x576] S4x577 1
  dot_S4x576x768_S768x768_S4x576x768_2_0_01_1_n_n_wf : DotDims.WF S4x576x768 S768x768 S4x576x768 [2] [0] [0, 1] [1] [] []
  dot_S4x576x768_S4x576x768_S4x576x576_2_2_1_1_0_0_wf : DotDims.WF S4x576x768 S4x576x768 S4x576x576 [2] [2] [1] [1] [0] [0]

variable [Facts]

def dot_S4x576x768_S768x768_S4x576x768_2_0_01_1_n_n : DotDims S4x576x768 S768x768 S4x576x768 where
  lhsContracting := [2]
  rhsContracting := [0]
  lhsNonContracting := [0, 1]
  rhsNonContracting := [1]
  lhsBatch := []
  rhsBatch := []
  wf := dot_S4x576x768_S768x768_S4x576x768_2_0_01_1_n_n_wf
def dot_S4x576x768_S4x576x768_S4x576x576_2_2_1_1_0_0 : DotDims S4x576x768 S4x576x768 S4x576x576 where
  lhsContracting := [2]
  rhsContracting := [2]
  lhsNonContracting := [1]
  rhsNonContracting := [1]
  lhsBatch := [0]
  rhsBatch := [0]
  wf := dot_S4x576x768_S4x576x768_S4x576x576_2_2_1_1_0_0_wf
def fn_norm {F : FTy → Type} [FloatOps F] (arg0 : FVec F S4x576x768 .f32) : FVec F S4x576x1 .f32 :=
  let v0 : FVec F S4x576x768 .f32 := mulf arg0 arg0
  let cst : FVec F S_ .f32 := constant S_ .f32 0x00000000#32
  let v1 : FVec F S4x576 .f32 := (fun x v => Host.reduceAdd x v reducesTo_S4x576x768_S4x576_d2 h_S_) v0 cst
  let v2 : FVec F S4x576x1 .f32 := broadcastInDim S4x576x1 ![0, 1] bcast_S4x576_S4x576x1_0_1 v1
  let v3 : FVec F S4x576x1 .f32 := Host.sqrt v2
  v3

def fn_where {F : FTy → Type} [FloatOps F] (arg0 : IVec S1x576x576 1) (arg1 : FVec F S_ .f32) (arg2 : FVec F S4x576x576 .f32) : FVec F S4x576x576 .f32 :=
  let v0 : FVec F S_ .f32 := id arg1
  let v1 : IVec S4x576x576 1 := broadcastInDim S4x576x576 ![0, 1, 2] bcast_S1x576x576_S4x576x576_0_1_2 arg0
  let v2 : FVec F S4x576x576 .f32 := broadcastInDim S4x576x576 ![] bcast_S_S4x576x576 v0
  let v3 : FVec F S4x576x576 .f32 := select v1 v2 arg2
  v3

def fn_part3 {F : FTy → Type} [FloatOps F] (main_values : FVec F S4x576x33 .f32) (main_v57 : FVec F S4x576 .f32) (main_v59 : FVec F S4x576 .f32) : IVec S4x577x768 1 :=
  let main_v60 : FVec F S4x576 .f32 := subf main_v57 main_v59
  let main_cst_8 : FVec F S_ .f32 := constant S_ .f32 0x39B80000#32
  let main_v61 : FVec F S4x576 .f32 := broadcastInDim S4x576 ![] bcast_S_S4x576 main_cst_8
  let main_v62 : IVec S4x576 1 := cmpf .ogt main_v60 main_v61
  let main_v63 : FVec F S4x576x1 .f32 := (extractStridedSlice S4x576x1 ![0, 0, 0] · slices_S4x576x33_S4x576x1_0_0_0) main_values
  let main_v64 : FVec F S4x576 .f32 := shapeCast S4x576 main_v63 shapeCasts_S4x576x1_S4x576
  let main_v65 : FVec F S4x576 .f32 := subf main_v64 main_v57
  let main_cst_9 : FVec F S_ .f32 := constant S_ .f32 0x41B80000#32
  let main_v66 : FVec F S4x576 .f32 := broadcastInDim S4x576 ![] bcast_S_S4x576 main_cst_9
  let main_v67 : IVec S4x576 1 := cmpf .olt main_v65 main_v66
  let main_v68 : IVec S4x576 1 := andi main_v62 main_v67
  let main_cst_10 : FVec F S_ .f32 := constant S_ .f32 0xCE6E6B28#32
  let main_v69 : FVec F S4x576 .f32 := broadcastInDim S4x576 ![] bcast_S_S4x576 main_cst_10
  let main_v70 : IVec S4x576 1 := cmpf .ogt main_v57 main_v69
  let main_v71 : IVec S4x576 1 := andi main_v68 main_v70
  let main_c_11 : IVec S_ 1 := constantI S_ 1 1#1
  let main_v72 : IVec S4x1 1 := broadcastInDim S4x1 ![] bcast_S_S4x1 main_c_11
  let main_v73 : IVec S4x577 1 := (fun a b => concatenate S4x577 1 [⟨S4x1, a⟩, ⟨S4x576, b⟩] concatenates_S4x1_S4x576_S4x577_d1) main_v72 main_v71
  let main_v74 : IVec S4x577x1 1 := broadcastInDim S4x577x1 ![0, 1] bcast_S4x577_S4x577x1_0_1 main_v73
  let main_v75 : IVec S4x577x768 1 := broadcastInDim S4x577x768 ![0, 1, 2] bcast_S4x577x1_S4x577x768_0_1_2 main_v74
  main_v75

def fn_part2 {F : FTy → Type} [FloatOps F] (main_arg5 : FVec F S576x576 .f32) (main_v33 : FVec F S4x576x768 .f32) (main_v37 : FVec F S4x576x768 .f32) (main_v40 : FVec F S4x576x1 .f32) : IVec S4x577x768 1 :=
  let main_v41 : FVec F S4x576x768 .f32 := broadcastInDim S4x576x768 ![0, 1, 2] bcast_S4x576x1_S4x576x768_0_1_2 main_v40
  let main_v42 : FVec F S4x576x768 .f32 := Host.divf main_v37 main_v41
  let main_v43 : FVec F S4x576x576 .f32 := (fun l r => Host.dotGeneral dot_S4x576x768_S4x576x768_S4x576x576_2_2_1_1_0_0 none l r) main_v33 main_v42
  let main_v44 : FVec F S1x576x576 .f32 := broadcastInDim S1x576x576 ![1, 2] bcast_S576x576_S1x576x576_1_2 main_arg5
  let main_v45 : FVec F S4x576x576 .f32 := broadcastInDim S4x576x576 ![0, 1, 2] bcast_S1x576x576_S4x576x576_0_1_2 main_v44
  let main_v46 : FVec F S4x576x576 .f32 := addf main_v43 main_v45
  let main_v47 : IVec S576x576 32 := iotaInDim S576x576 32 0
  let main_v48 : IVec S576x576 32 := iotaInDim S576x576 32 1
  let main_c : IVec S_ 32 := constantI S_ 32 0#32
  let main_v49 : IVec S576x576 32 := broadcastInDim S576x576 ![] bcast_S_S576x576 main_c
  let main_v50 : IVec S576x576 32 := addi main_v47 main_v49
  let main_v51 : IVec S576x576 1 := cmpi .eq main_v50 main_v48
  let main_v52 : IVec S1x576x576 1 := broadcastInDim S1x576x576 ![1, 2] bcast_S576x576_S1x576x576_1_2 main_v51
  let main_cst_6 : FVec F S_ .f32 := constant S_ .f32 0xCE6E6B28#32
  let main_v53 : FVec F S4x576x576 .f32 := fn_where (F := F) main_v52 main_cst_6 main_v46
  let main_cst_7 : FVec F S_ .f32 := constant S_ .f32 0x3DCCCCCD#32
  let main_v54 : FVec F S4x576x576 .f32 := broadcastInDim S4x576x576 ![] bcast_S_S4x576x576 main_cst_7
  let main_v55 : FVec F S4x576x576 .f32 := Host.divf main_v53 main_v54
  let main_values : FVec F S4x576x33 .f32 := (fun x => (Host.topK S4x576x33 2 (FloatOps.cmpfTotal .gt) x sliceFits_S4x576x576_S4x576x33).1) main_v55
  let main_indices : IVec S4x576x33 32 := (fun x => (Host.topK S4x576x33 2 (FloatOps.cmpfTotal .gt) x sliceFits_S4x576x576_S4x576x33).2) main_v55
  let main_v56 : FVec F S4x576x1 .f32 := (extractStridedSlice S4x576x1 ![0, 0, 31] · slices_S4x576x33_S4x576x1_0_0_31) main_values
  let main_v57 : FVec F S4x576 .f32 := shapeCast S4x576 main_v56 shapeCasts_S4x576x1_S4x576
  let main_v58 : FVec F S4x576x1 .f32 := (extractStridedSlice S4x576x1 ![0, 0, 32] · slices_S4x576x33_S4x576x1_0_0_32) main_values
  let main_v59 : FVec F S4x576 .f32 := shapeCast S4x576 main_v58 shapeCasts_S4x576x1_S4x576
  fn_part3 (F := F) main_values main_v57 main_v59

def fn_part1 {F : FTy → Type} [FloatOps F] (main_arg1 : FVec F S768x768 .f32) (main_arg2 : FVec F S768 .f32) (main_arg3 : FVec F S768x768 .f32) (main_arg4 : FVec F S768 .f32) (main_arg5 : FVec F S576x576 .f32) (main_arg11 : FVec F S768 .f32) (main_v17 : FVec F S4x577x768 .f32) (main_v18 : FVec F S1x1x768 .f32) : IVec S4x577x768 1 :=
  let main_v19 : FVec F S4x577x768 .f32 := broadcastInDim S4x577x768 ![0, 1, 2] bcast_S1x1x768_S4x577x768_0_1_2 main_v18
  let main_v20 : FVec F S4x577x768 .f32 := mulf main_v17 main_v19
  let main_v21 : FVec F S1x1x768 .f32 := broadcastInDim S1x1x768 ![2] bcast_S768_S1x1x768_2 main_arg11
  let main_v22 : FVec F S4x577x768 .f32 := broadcastInDim S4x577x768 ![0, 1, 2] bcast_S1x1x768_S4x577x768_0_1_2 main_v21
  let main_v23 : FVec F S4x577x768 .f32 := addf main_v20 main_v22
  let main_v24 : FVec F S4x576x768 .f32 := (extractStridedSlice S4x576x768 ![0, 1, 0] · slices_S4x577x768_S4x576x768_0_1_0) main_v23
  let main_v25 : FVec F S4x576x768 .f32 := (fun l r => Host.dotGeneral dot_S4x576x768_S768x768_S4x576x768_2_0_01_1_n_n none l r) main_v24 main_arg1
  let main_v26 : FVec F S1x1x768 .f32 := broadcastInDim S1x1x768 ![2] bcast_S768_S1x1x768_2 main_arg2
  let main_v27 : FVec F S4x576x768 .f32 := broadcastInDim S4x576x768 ![0, 1, 2] bcast_S1x1x768_S4x576x768_0_1_2 main_v26
  let main_v28 : FVec F S4x576x768 .f32 := addf main_v25 main_v27
  let main_v29 : FVec F S4x576x1 .f32 := fn_norm (F := F) main_v28
  let main_cst_4 : FVec F S_ .f32 := constant S_ .f32 0x2B8CBCCC#32
  let main_v30 : FVec F S4x576x1 .f32 := broadcastInDim S4x576x1 ![] bcast_S_S4x576x1 main_cst_4
  let main_v31 : FVec F S4x576x1 .f32 := maximumf main_v29 main_v30
  let main_v32 : FVec F S4x576x768 .f32 := broadcastInDim S4x576x768 ![0, 1, 2] bcast_S4x576x1_S4x576x768_0_1_2 main_v31
  let main_v33 : FVec F S4x576x768 .f32 := Host.divf main_v28 main_v32
  let main_v34 : FVec F S4x576x768 .f32 := (fun l r => Host.dotGeneral dot_S4x576x768_S768x768_S4x576x768_2_0_01_1_n_n none l r) main_v24 main_arg3
  let main_v35 : FVec F S1x1x768 .f32 := broadcastInDim S1x1x768 ![2] bcast_S768_S1x1x768_2 main_arg4
  let main_v36 : FVec F S4x576x768 .f32 := broadcastInDim S4x576x768 ![0, 1, 2] bcast_S1x1x768_S4x576x768_0_1_2 main_v35
  let main_v37 : FVec F S4x576x768 .f32 := addf main_v34 main_v36
  let main_v38 : FVec F S4x576x1 .f32 := fn_norm (F := F) main_v37
  let main_cst_5 : FVec F S_ .f32 := constant S_ .f32 0x2B8CBCCC#32
  let main_v39 : FVec F S4x576x1 .f32 := broadcastInDim S4x576x1 ![] bcast_S_S4x576x1 main_cst_5
  let main_v40 : FVec F S4x576x1 .f32 := maximumf main_v38 main_v39
  fn_part2 (F := F) main_arg5 main_v33 main_v37 main_v40

def fn {F : FTy → Type} [FloatOps F] (main_arg0 : FVec F S4x577x768 .f32) (main_arg1 : FVec F S768x768 .f32) (main_arg2 : FVec F S768 .f32) (main_arg3 : FVec F S768x768 .f32) (main_arg4 : FVec F S768 .f32) (main_arg5 : FVec F S576x576 .f32) (main_arg6 : FVec F S768x2304 .f32) (main_arg7 : FVec F S2304 .f32) (main_arg8 : FVec F S768x768 .f32) (main_arg9 : FVec F S768 .f32) (main_arg10 : FVec F S768 .f32) (main_arg11 : FVec F S768 .f32) (main_arg12 : FVec F S768 .f32) (main_arg13 : FVec F S768 .f32) (main_arg14 : FVec F S768x3072 .f32) (main_arg15 : FVec F S3072 .f32) (main_arg16 : FVec F S3072x768 .f32) (main_arg17 : FVec F S768 .f32) : IVec S4x577x768 1 :=
  let main_cst : FVec F S_ .f32 := constant S_ .f32 0x00000000#32
  let main_v0 : FVec F S4x577 .f32 := (fun x v => Host.reduceAdd x v reducesTo_S4x577x768_S4x577_d2 h_S_) main_arg0 main_cst
  let main_v1 : FVec F S4x577x1 .f32 := broadcastInDim S4x577x1 ![0, 1] bcast_S4x577_S4x577x1_0_1 main_v0
  let main_cst_0 : FVec F S_ .f32 := constant S_ .f32 0x44400000#32
  let main_v2 : FVec F S4x577x1 .f32 := broadcastInDim S4x577x1 ![] bcast_S_S4x577x1 main_cst_0
  let main_v3 : FVec F S4x577x1 .f32 := Host.divf main_v1 main_v2
  let main_v4 : FVec F S4x577x768 .f32 := broadcastInDim S4x577x768 ![0, 1, 2] bcast_S4x577x1_S4x577x768_0_1_2 main_v3
  let main_v5 : FVec F S4x577x768 .f32 := subf main_arg0 main_v4
  let main_v6 : FVec F S4x577x768 .f32 := mulf main_v5 main_v5
  let main_cst_1 : FVec F S_ .f32 := constant S_ .f32 0x00000000#32
  let main_v7 : FVec F S4x577 .f32 := (fun x v => Host.reduceAdd x v reducesTo_S4x577x768_S4x577_d2 h_S_) main_v6 main_cst_1
  let main_v8 : FVec F S4x577x1 .f32 := broadcastInDim S4x577x1 ![0, 1] bcast_S4x577_S4x577x1_0_1 main_v7
  let main_cst_2 : FVec F S_ .f32 := constant S_ .f32 0x44400000#32
  let main_v9 : FVec F S4x577x1 .f32 := broadcastInDim S4x577x1 ![] bcast_S_S4x577x1 main_cst_2
  let main_v10 : FVec F S4x577x1 .f32 := Host.divf main_v8 main_v9
  let main_v11 : FVec F S4x577x768 .f32 := broadcastInDim S4x577x768 ![0, 1, 2] bcast_S4x577x1_S4x577x768_0_1_2 main_v3
  let main_v12 : FVec F S4x577x768 .f32 := subf main_arg0 main_v11
  let main_cst_3 : FVec F S_ .f32 := constant S_ .f32 0x3727C5AC#32
  let main_v13 : FVec F S4x577x1 .f32 := broadcastInDim S4x577x1 ![] bcast_S_S4x577x1 main_cst_3
  let main_v14 : FVec F S4x577x1 .f32 := addf main_v10 main_v13
  let main_v15 : FVec F S4x577x1 .f32 := Host.sqrt main_v14
  let main_v16 : FVec F S4x577x768 .f32 := broadcastInDim S4x577x768 ![0, 1, 2] bcast_S4x577x1_S4x577x768_0_1_2 main_v15
  let main_v17 : FVec F S4x577x768 .f32 := Host.divf main_v12 main_v16
  let main_v18 : FVec F S1x1x768 .f32 := broadcastInDim S1x1x768 ![2] bcast_S768_S1x1x768_2 main_arg10
  fn_part1 (F := F) main_arg1 main_arg2 main_arg3 main_arg4 main_arg5 main_arg11 main_v17 main_v18
-- ==== Pre_finite.lean ====
abbrev S4x577x768 : Shape := ⟨3, ![4, 577, 768]⟩
abbrev S768x768 : Shape := ⟨2, ![768, 768]⟩
abbrev S768 : Shape := ⟨1, ![768]⟩
abbrev S576x576 : Shape := ⟨2, ![576, 576]⟩
abbrev S768x2304 : Shape := ⟨2, ![768, 2304]⟩
abbrev S2304 : Shape := ⟨1, ![2304]⟩
abbrev S768x3072 : Shape := ⟨2, ![768, 3072]⟩
abbrev S3072 : Shape := ⟨1, ![3072]⟩
abbrev S3072x768 : Shape := ⟨2, ![3072, 768]⟩
abbrev S_ : Shape := ⟨0, ![]⟩

class Facts : Prop where
  bcast_S_S768x2304 : S_.BroadcastsInDim S768x2304 (![] : Fin 0 → Fin S768x2304.rank)
  bcast_S_S2304 : S_.BroadcastsInDim S2304 (![] : Fin 0 → Fin S2304.rank)
  bcast_S_S768 : S_.BroadcastsInDim S768 (![] : Fin 0 → Fin S768.rank)

variable [Facts]

def fn {F : FTy → Type} [FloatOps F] (main_arg0 : FVec F S4x577x768 .f32) (main_arg1 : FVec F S768x768 .f32) (main_arg2 : FVec F S768 .f32) (main_arg3 : FVec F S768x768 .f32) (main_arg4 : FVec F S768 .f32) (main_arg5 : FVec F S576x576 .f32) (main_arg6 : FVec F S768x2304 .f32) (main_arg7 : FVec F S2304 .f32) (main_arg8 : FVec F S768x768 .f32) (main_arg9 : FVec F S768 .f32) (main_arg10 : FVec F S768 .f32) (main_arg11 : FVec F S768 .f32) (main_arg12 : FVec F S768 .f32) (main_arg13 : FVec F S768 .f32) (main_arg14 : FVec F S768x3072 .f32) (main_arg15 : FVec F S3072 .f32) (main_arg16 : FVec F S3072x768 .f32) (main_arg17 : FVec F S768 .f32) : IVec S768x2304 1 × IVec S2304 1 × IVec S768 1 × IVec S768 1 :=
  let main_v0 : FVec F S768x2304 .f32 := Host.absf main_arg6
  let main_cst : FVec F S_ .f32 := constant S_ .f32 0x7F800000#32
  let main_v1 : FVec F S768x2304 .f32 := broadcastInDim S768x2304 ![] bcast_S_S768x2304 main_cst
  let main_v2 : IVec S768x2304 1 := cmpf .olt main_v0 main_v1
  let main_v3 : FVec F S2304 .f32 := Host.absf main_arg7
  let main_cst_0 : FVec F S_ .f32 := constant S_ .f32 0x7F800000#32
  let main_v4 : FVec F S2304 .f32 := broadcastInDim S2304 ![] bcast_S_S2304 main_cst_0
  let main_v5 : IVec S2304 1 := cmpf .olt main_v3 main_v4
  let main_v6 : FVec F S768 .f32 := Host.absf main_arg10
  let main_cst_1 : FVec F S_ .f32 := constant S_ .f32 0x7F800000#32
  let main_v7 : FVec F S768 .f32 := broadcastInDim S768 ![] bcast_S_S768 main_cst_1
  let main_v8 : IVec S768 1 := cmpf .olt main_v6 main_v7
  let main_v9 : FVec F S768 .f32 := Host.absf main_arg11
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  (main_v2, main_v5, main_v8, main_v11)
-- ==== Kernel.lean ====
abbrev S4x577x768 : Shape := ⟨3, ![4, 577, 768]⟩
abbrev S768x768 : Shape := ⟨2, ![768, 768]⟩
abbrev S768 : Shape := ⟨1, ![768]⟩
abbrev S576x576 : Shape := ⟨2, ![576, 576]⟩
abbrev S768x2304 : Shape := ⟨2, ![768, 2304]⟩
abbrev S2304 : Shape := ⟨1, ![2304]⟩
abbrev S768x3072 : Shape := ⟨2, ![768, 3072]⟩
abbrev S3072 : Shape := ⟨1, ![3072]⟩
abbrev S3072x768 : Shape := ⟨2, ![3072, 768]⟩
abbrev S768x3840 : Shape := ⟨2, ![768, 3840]⟩
abbrev S3840 : Shape := ⟨1, ![3840]⟩
abbrev S1x3840 : Shape := ⟨2, ![1, 3840]⟩
abbrev S_ : Shape := ⟨0, ![]⟩
abbrev S640x640 : Shape := ⟨2, ![640, 640]⟩
abbrev S1x768 : Shape := ⟨2, ![1, 768]⟩
abbrev S1x3072 : Shape := ⟨2, ![1, 3072]⟩
abbrev S1x640x768 : Shape := ⟨3, ![1, 640, 768]⟩
abbrev S640x1 : Shape := ⟨2, ![640, 1]⟩
abbrev S640x768 : Shape := ⟨2, ![640, 768]⟩
abbrev S640 : Shape := ⟨1, ![640]⟩
abbrev S640x3840 : Shape := ⟨2, ![640, 3840]⟩
abbrev S640x64 : Shape := ⟨2, ![640, 64]⟩
abbrev S640x3072 : Shape := ⟨2, ![640, 3072]⟩

abbrev nBuf : Space → Nat
  | .hbm => 36
  | .vmem => 17
  | .smem => 0
  | _ => 0

abbrev bufTy : (tb : Table) → Fin (tcTables nBuf tb) → BufTy
  | .hbm, ⟨0, _⟩ => ⟨S4x577x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S576x576, .f32⟩
  | .hbm, ⟨6, _⟩ => ⟨S768x2304, .f32⟩
  | .hbm, ⟨7, _⟩ => ⟨S2304, .f32⟩
  | .hbm, ⟨8, _⟩ => ⟨S768x768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S768, .f32⟩
  | .hbm, ⟨13, _⟩ => ⟨S768, .f32⟩
  | .hbm, ⟨14, _⟩ => ⟨S768x3072, .f32⟩
  | .hbm, ⟨15, _⟩ => ⟨S3072, .f32⟩
  | .hbm, ⟨16, _⟩ => ⟨S3072x768, .f32⟩
  | .hbm, ⟨17, _⟩ => ⟨S768, .f32⟩
  | .hbm, ⟨18, _⟩ => ⟨S768x3840, .f32⟩
  | .hbm, ⟨19, _⟩ => ⟨S768x3840, .bf16⟩
  | .hbm, ⟨20, _⟩ => ⟨S3840, .f32⟩
  | .hbm, ⟨21, _⟩ => ⟨S1x3840, .f32⟩
  | .hbm, ⟨22, _⟩ => ⟨S_, .i32⟩
  | .hbm, ⟨23, _⟩ => ⟨S_, .f32⟩
  | .hbm, ⟨24, _⟩ => ⟨S640x640, .f32⟩
  | .hbm, ⟨25, _⟩ => ⟨S1x768, .f32⟩
  | .hbm, ⟨26, _⟩ => ⟨S1x768, .f32⟩
  | .hbm, ⟨27, _⟩ => ⟨S768x768, .bf16⟩
  | .hbm, ⟨28, _⟩ => ⟨S1x768, .f32⟩
  | .hbm, ⟨29, _⟩ => ⟨S1x768, .f32⟩
  | .hbm, ⟨30, _⟩ => ⟨S1x768, .f32⟩
  | .hbm, ⟨31, _⟩ => ⟨S768x3072, .bf16⟩
  | .hbm, ⟨32, _⟩ => ⟨S1x3072, .f32⟩
  | .hbm, ⟨33, _⟩ => ⟨S3072x768, .bf16⟩
  | .hbm, ⟨34, _⟩ => ⟨S1x768, .f32⟩
  | .hbm, ⟨35, _⟩ => ⟨S4x577x768, .f32⟩
  | .local _ .vmem, ⟨0, _⟩ => ⟨S1x640x768, .f32⟩
  | .local _ .vmem, ⟨1, _⟩ => ⟨S1x640x768, .f32⟩
  | .local _ .vmem, ⟨2, _⟩ => ⟨S768x3840, .bf16⟩
  | .local _ .vmem, ⟨3, _⟩ => ⟨S1x3840, .f32⟩
  | .local _ .vmem, ⟨4, _⟩ => ⟨S1x768, .f32⟩
  | .local _ .vmem, ⟨5, _⟩ => ⟨S1x768, .f32⟩
  | .local _ .vmem, ⟨6, _⟩ => ⟨S640x640, .f32⟩
  | .local _ .vmem, ⟨7, _⟩ => ⟨S768x768, .bf16⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S768x3072, .bf16⟩
  | .local _ .vmem, ⟨12, _⟩ => ⟨S1x3072, .f32⟩
  | .local _ .vmem, ⟨13, _⟩ => ⟨S3072x768, .bf16⟩
  | .local _ .vmem, ⟨14, _⟩ => ⟨S1x768, .f32⟩
  | .local _ .vmem, ⟨15, _⟩ => ⟨S1x640x768, .f32⟩
  | .local _ .vmem, ⟨16, _⟩ => ⟨S1x640x768, .f32⟩
  | _, _ => ⟨S4x577x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x640x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3840 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3072x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x640x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F] [Named F]
def κ : String → Option EReal := fun
  | "inv_temp" => some ((134217728 / 13421773 : ℝ) : EReal)
  | "mask30" => some ⊥
  | "mask9" => some ⊥
  | _ => none
-- ==== ReferenceIdeal.lean ====
abbrev S4x577x768 : Shape := ⟨3, ![4, 577, 768]⟩
abbrev S768x768 : Shape := ⟨2, ![768, 768]⟩
abbrev S768 : Shape := ⟨1, ![768]⟩
abbrev S576x576 : Shape := ⟨2, ![576, 576]⟩
abbrev S768x2304 : Shape := ⟨2, ![768, 2304]⟩
abbrev S2304 : Shape := ⟨1, ![2304]⟩
abbrev S768x3072 : Shape := ⟨2, ![768, 3072]⟩
abbrev S3072 : Shape := ⟨1, ![3072]⟩
abbrev S3072x768 : Shape := ⟨2, ![3072, 768]⟩
abbrev S_ : Shape := ⟨0, ![]⟩
abbrev S4x577 : Shape := ⟨2, ![4, 577]⟩
abbrev S4x577x1 : Shape := ⟨3, ![4, 577, 1]⟩
abbrev S1x1x768 : Shape := ⟨3, ![1, 1, 768]⟩
abbrev S4x576x768 : Shape := ⟨3, ![4, 576, 768]⟩
abbrev S4x576 : Shape := ⟨2, ![4, 576]⟩
abbrev S4x576x1 : Shape := ⟨3, ![4, 576, 1]⟩
abbrev S4x576x576 : Shape := ⟨3, ![4, 576, 576]⟩
abbrev S1x576x576 : Shape := ⟨3, ![1, 576, 576]⟩
abbrev S4x576x32 : Shape := ⟨3, ![4, 576, 32]⟩
abbrev S4x577x2304 : Shape := ⟨3, ![4, 577, 2304]⟩
abbrev S1x1x2304 : Shape := ⟨3, ![1, 1, 2304]⟩
abbrev S4x577x3x12x64 : Shape := ⟨5, ![4, 577, 3, 12, 64]⟩
abbrev S3x4x12x577x64 : Shape := ⟨5, ![3, 4, 12, 577, 64]⟩
abbrev S1x4x12x577x64 : Shape := ⟨5, ![1, 4, 12, 577, 64]⟩
abbrev S4x12x577x64 : Shape := ⟨4, ![4, 12, 577, 64]⟩
abbrev S4x12x1x64 : Shape := ⟨4, ![4, 12, 1, 64]⟩
abbrev S4x12x1x577 : Shape := ⟨4, ![4, 12, 1, 577]⟩
abbrev S4x12x1 : Shape := ⟨3, ![4, 12, 1]⟩
abbrev S4x12x1x1 : Shape := ⟨4, ![4, 12, 1, 1]⟩
abbrev S4x12x576x64 : Shape := ⟨4, ![4, 12, 576, 64]⟩
abbrev S4 : Shape := ⟨1, ![4]⟩
abbrev S4x1x1x1 : Shape := ⟨4, ![4, 1, 1, 1]⟩
abbrev S12 : Shape := ⟨1, ![12]⟩
abbrev S1x12x1x1 : Shape := ⟨4, ![1, 12, 1, 1]⟩
abbrev S4x1x576x32 : Shape := ⟨4, ![4, 1, 576, 32]⟩
abbrev S4x12x576x32 : Shape := ⟨4, ![4, 12, 576, 32]⟩
abbrev S4x12x576x32x1 : Shape := ⟨5, ![4, 12, 576, 32, 1]⟩
abbrev S4x12x576x32x3 : Shape := ⟨5, ![4, 12, 576, 32, 3]⟩
abbrev S4x12x576x32x64 : Shape := ⟨5, ![4, 12, 576, 32, 64]⟩
abbrev S4x12x576 : Shape := ⟨3, ![4, 12, 576]⟩
abbrev S4x12x576x1 : Shape := ⟨4, ![4, 12, 576, 1]⟩
abbrev S4x577x12x64 : Shape := ⟨4, ![4, 577, 12, 64]⟩
abbrev S4x577x3072 : Shape := ⟨3, ![4, 577, 3072]⟩
abbrev S1x1x3072 : Shape := ⟨3, ![1, 1, 3072]⟩

abbrev nBuf : Space → Nat
  | .hbm => 290
  | .vmem => 0
  | .smem => 0
  | _ => 0

abbrev hbmTy0_0 (i : Nat) : BufTy := match i % 128 with
  | 0 => ⟨S4x577x768, .f32⟩
  | 1 => ⟨S768x768, .f32⟩
  | 2 => ⟨S768, .f32⟩
  | 3 => ⟨S768x768, .f32⟩
  | 4 => ⟨S768, .f32⟩
  | 5 => ⟨S576x576, .f32⟩
  | 6 => ⟨S768x2304, .f32⟩
  | 7 => ⟨S2304, .f32⟩
  | 8 => ⟨S768x768, .f32⟩
  | 9 => ⟨S768, .f32⟩
  | 10 => ⟨S768, .f32⟩
  | 11 => ⟨S768, .f32⟩
  | 12 => ⟨S768, .f32⟩
  | 13 => ⟨S768, .f32⟩
  | 14 => ⟨S768x3072, .f32⟩
  | 15 => ⟨S3072, .f32⟩
  | 16 => ⟨S3072x768, .f32⟩
  | 17 => ⟨S768, .f32⟩
  | 18 => ⟨S_, .f32⟩
  | 19 => ⟨S4x577, .f32⟩
  | 20 => ⟨S4x577x1, .f32⟩
  | 21 => ⟨S_, .f32⟩
  | 22 => ⟨S4x577x1, .f32⟩
  | 23 => ⟨S4x577x1, .f32⟩
  | 24 => ⟨S4x577x768, .f32⟩
  | 25 => ⟨S4x577x768, .f32⟩
  | 26 => ⟨S4x577x768, .f32⟩
  | 27 => ⟨S_, .f32⟩
  | 28 => ⟨S4x577, .f32⟩
  | 29 => ⟨S4x577x1, .f32⟩
  | 30 => ⟨S_, .f32⟩
  | 31 => ⟨S4x577x1, .f32⟩
  | 32 => ⟨S4x577x1, .f32⟩
  | 33 => ⟨S4x577x768, .f32⟩
  | 34 => ⟨S4x577x768, .f32⟩
  | 35 => ⟨S_, .f32⟩
  | 36 => ⟨S4x577x1, .f32⟩
  | 37 => ⟨S4x577x1, .f32⟩
  | 38 => ⟨S4x577x1, .f32⟩
  | 39 => ⟨S4x577x768, .f32⟩
  | 40 => ⟨S4x577x768, .f32⟩
  | 41 => ⟨S1x1x768, .f32⟩
  | 42 => ⟨S4x577x768, .f32⟩
  | 43 => ⟨S4x577x768, .f32⟩
  | 44 => ⟨S1x1x768, .f32⟩
  | 45 => ⟨S4x577x768, .f32⟩
  | 46 => ⟨S4x577x768, .f32⟩
  | 47 => ⟨S4x576x768, .f32⟩
  | 48 => ⟨S4x576x768, .f32⟩
  | 49 => ⟨S1x1x768, .f32⟩
  | 50 => ⟨S4x576x768, .f32⟩
  | 51 => ⟨S4x576x768, .f32⟩
  | 52 => ⟨S4x576x768, .f32⟩
  | 53 => ⟨S_, .f32⟩
  | 54 => ⟨S4x576, .f32⟩
  | 55 => ⟨S4x576x1, .f32⟩
  | 56 => ⟨S4x576x1, .f32⟩
  | 57 => ⟨S_, .f32⟩
  | 58 => ⟨S4x576x1, .f32⟩
  | 59 => ⟨S4x576x1, .f32⟩
  | 60 => ⟨S4x576x768, .f32⟩
  | 61 => ⟨S4x576x768, .f32⟩
  | 62 => ⟨S4x576x768, .f32⟩
  | 63 => ⟨S1x1x768, .f32⟩
  | 64 => ⟨S4x576x768, .f32⟩
  | 65 => ⟨S4x576x768, .f32⟩
  | 66 => ⟨S4x576x768, .f32⟩
  | 67 => ⟨S_, .f32⟩
  | 68 => ⟨S4x576, .f32⟩
  | 69 => ⟨S4x576x1, .f32⟩
  | 70 => ⟨S4x576x1, .f32⟩
  | 71 => ⟨S_, .f32⟩
  | 72 => ⟨S4x576x1, .f32⟩
  | 73 => ⟨S4x576x1, .f32⟩
  | 74 => ⟨S4x576x768, .f32⟩
  | 75 => ⟨S4x576x768, .f32⟩
  | 76 => ⟨S4x576x576, .f32⟩
  | 77 => ⟨S1x576x576, .f32⟩
  | 78 => ⟨S4x576x576, .f32⟩
  | 79 => ⟨S4x576x576, .f32⟩
  | 80 => ⟨S576x576, .i32⟩
  | 81 => ⟨S576x576, .i32⟩
  | 82 => ⟨S_, .i32⟩
  | 83 => ⟨S576x576, .i32⟩
  | 84 => ⟨S576x576, .i32⟩
  | 85 => ⟨S576x576, .i1⟩
  | 86 => ⟨S1x576x576, .i1⟩
  | 87 => ⟨S_, .f32⟩
  | 88 => ⟨S_, .f32⟩
  | 89 => ⟨S4x576x576, .i1⟩
  | 90 => ⟨S4x576x576, .f32⟩
  | 91 => ⟨S4x576x576, .f32⟩
  | 92 => ⟨S_, .f32⟩
  | 93 => ⟨S4x576x576, .f32⟩
  | 94 => ⟨S4x576x576, .f32⟩
  | 95 => ⟨S4x576x32, .f32⟩
  | 96 => ⟨S4x576x32, .i32⟩
  | 97 => ⟨S_, .f32⟩
  | 98 => ⟨S4x576, .f32⟩
  | 99 => ⟨S_, .f32⟩
  | 100 => ⟨S4x576, .f32⟩
  | 101 => ⟨S4x576, .f32⟩
  | 102 => ⟨S4x576x1, .f32⟩
  | 103 => ⟨S4x576x32, .f32⟩
  | 104 => ⟨S4x576x32, .f32⟩
  | 105 => ⟨S4x576x32, .f32⟩
  | 106 => ⟨S_, .f32⟩
  | 107 => ⟨S4x576, .f32⟩
  | 108 => ⟨S4x576x1, .f32⟩
  | 109 => ⟨S4x576x32, .f32⟩
  | 110 => ⟨S4x576x32, .f32⟩
  | 111 => ⟨S4x577x2304, .f32⟩
  | 112 => ⟨S1x1x2304, .f32⟩
  | 113 => ⟨S4x577x2304, .f32⟩
  | 114 => ⟨S4x577x2304, .f32⟩
  | 115 => ⟨S4x577x3x12x64, .f32⟩
  | 116 => ⟨S3x4x12x577x64, .f32⟩
  | 117 => ⟨S1x4x12x577x64, .f32⟩
  | 118 => ⟨S4x12x577x64, .f32⟩
  | 119 => ⟨S1x4x12x577x64, .f32⟩
  | 120 => ⟨S4x12x577x64, .f32⟩
  | 121 => ⟨S1x4x12x577x64, .f32⟩
  | 122 => ⟨S4x12x577x64, .f32⟩
  | 123 => ⟨S4x12x1x64, .f32⟩
  | 124 => ⟨S4x12x1x577, .f32⟩
  | 125 => ⟨S_, .f32⟩
  | 126 => ⟨S4x12x1x577, .f32⟩
  | 127 => ⟨S4x12x1x577, .f32⟩
  | _ => ⟨S4x577x768, .f32⟩

abbrev hbmTy0_1 (i : Nat) : BufTy := match i % 128 with
  | 0 => ⟨S_, .f32⟩
  | 1 => ⟨S4x12x1, .f32⟩
  | 2 => ⟨S_, .f32⟩
  | 3 => ⟨S4x12x1, .f32⟩
  | 4 => ⟨S4x12x1, .f32⟩
  | 5 => ⟨S4x12x1x1, .f32⟩
  | 6 => ⟨S4x12x1x577, .f32⟩
  | 7 => ⟨S4x12x1x577, .f32⟩
  | 8 => ⟨S4x12x1x577, .f32⟩
  | 9 => ⟨S_, .f32⟩
  | 10 => ⟨S4x12x1, .f32⟩
  | 11 => ⟨S4x12x1x1, .f32⟩
  | 12 => ⟨S4x12x1x577, .f32⟩
  | 13 => ⟨S4x12x1x577, .f32⟩
  | 14 => ⟨S4x12x1x64, .f32⟩
  | 15 => ⟨S4x12x576x64, .f32⟩
  | 16 => ⟨S4x12x576x64, .f32⟩
  | 17 => ⟨S4x12x576x64, .f32⟩
  | 18 => ⟨S4, .i32⟩
  | 19 => ⟨S4x1x1x1, .i32⟩
  | 20 => ⟨S12, .i32⟩
  | 21 => ⟨S1x12x1x1, .i32⟩
  | 22 => ⟨S4x1x576x32, .i32⟩
  | 23 => ⟨S_, .i32⟩
  | 24 => ⟨S4x1x1x1, .i32⟩
  | 25 => ⟨S4x1x1x1, .i1⟩
  | 26 => ⟨S_, .i32⟩
  | 27 => ⟨S4x1x1x1, .i32⟩
  | 28 => ⟨S4x1x1x1, .i32⟩
  | 29 => ⟨S4x1x1x1, .i32⟩
  | 30 => ⟨S_, .i32⟩
  | 31 => ⟨S1x12x1x1, .i32⟩
  | 32 => ⟨S1x12x1x1, .i1⟩
  | 33 => ⟨S_, .i32⟩
  | 34 => ⟨S1x12x1x1, .i32⟩
  | 35 => ⟨S1x12x1x1, .i32⟩
  | 36 => ⟨S1x12x1x1, .i32⟩
  | 37 => ⟨S_, .i32⟩
  | 38 => ⟨S4x1x576x32, .i32⟩
  | 39 => ⟨S4x1x576x32, .i1⟩
  | 40 => ⟨S_, .i32⟩
  | 41 => ⟨S4x1x576x32, .i32⟩
  | 42 => ⟨S4x1x576x32, .i32⟩
  | 43 => ⟨S4x1x576x32, .i32⟩
  | 44 => ⟨S4x12x576x32, .i32⟩
  | 45 => ⟨S4x12x576x32, .i32⟩
  | 46 => ⟨S4x12x576x32, .i32⟩
  | 47 => ⟨S4x12x576x32x1, .i32⟩
  | 48 => ⟨S4x12x576x32x1, .i32⟩
  | 49 => ⟨S4x12x576x32x1, .i32⟩
  | 50 => ⟨S4x12x576x32x3, .i32⟩
  | 51 => ⟨S4x12x576x32x64, .f32⟩
  | 52 => ⟨S_, .i32⟩
  | 53 => ⟨S4x1x1x1, .i32⟩
  | 54 => ⟨S4x1x1x1, .i1⟩
  | 55 => ⟨S_, .i32⟩
  | 56 => ⟨S4x1x1x1, .i32⟩
  | 57 => ⟨S4x1x1x1, .i32⟩
  | 58 => ⟨S4x1x1x1, .i32⟩
  | 59 => ⟨S_, .i32⟩
  | 60 => ⟨S1x12x1x1, .i32⟩
  | 61 => ⟨S1x12x1x1, .i1⟩
  | 62 => ⟨S_, .i32⟩
  | 63 => ⟨S1x12x1x1, .i32⟩
  | 64 => ⟨S1x12x1x1, .i32⟩
  | 65 => ⟨S1x12x1x1, .i32⟩
  | 66 => ⟨S_, .i32⟩
  | 67 => ⟨S4x1x576x32, .i32⟩
  | 68 => ⟨S4x1x576x32, .i1⟩
  | 69 => ⟨S_, .i32⟩
  | 70 => ⟨S4x1x576x32, .i32⟩
  | 71 => ⟨S4x1x576x32, .i32⟩
  | 72 => ⟨S4x1x576x32, .i32⟩
  | 73 => ⟨S4x12x576x32, .i32⟩
  | 74 => ⟨S4x12x576x32, .i32⟩
  | 75 => ⟨S4x12x576x32, .i32⟩
  | 76 => ⟨S4x12x576x32x1, .i32⟩
  | 77 => ⟨S4x12x576x32x1, .i32⟩
  | 78 => ⟨S4x12x576x32x1, .i32⟩
  | 79 => ⟨S4x12x576x32x3, .i32⟩
  | 80 => ⟨S4x12x576x32x64, .f32⟩
  | 81 => ⟨S4x12x576x32, .f32⟩
  | 82 => ⟨S_, .f32⟩
  | 83 => ⟨S4x12x576x32, .f32⟩
  | 84 => ⟨S4x12x576x32, .f32⟩
  | 85 => ⟨S4x576x32, .f32⟩
  | 86 => ⟨S_, .f32⟩
  | 87 => ⟨S4x576x32, .f32⟩
  | 88 => ⟨S4x576x32, .f32⟩
  | 89 => ⟨S4x1x576x32, .f32⟩
  | 90 => ⟨S4x12x576x32, .f32⟩
  | 91 => ⟨S4x12x576x32, .f32⟩
  | 92 => ⟨S_, .f32⟩
  | 93 => ⟨S4x12x576, .f32⟩
  | 94 => ⟨S_, .f32⟩
  | 95 => ⟨S4x12x576, .f32⟩
  | 96 => ⟨S4x12x576, .f32⟩
  | 97 => ⟨S4x12x576x1, .f32⟩
  | 98 => ⟨S4x12x576x32, .f32⟩
  | 99 => ⟨S4x12x576x32, .f32⟩
  | 100 => ⟨S4x12x576x32, .f32⟩
  | 101 => ⟨S_, .f32⟩
  | 102 => ⟨S4x12x576, .f32⟩
  | 103 => ⟨S4x12x576x1, .f32⟩
  | 104 => ⟨S4x12x576x32, .f32⟩
  | 105 => ⟨S4x12x576x32, .f32⟩
  | 106 => ⟨S4x12x576x64, .f32⟩
  | 107 => ⟨S4x12x577x64, .f32⟩
  | 108 => ⟨S4x577x12x64, .f32⟩
  | 109 => ⟨S4x577x768, .f32⟩
  | 110 => ⟨S4x577x768, .f32⟩
  | 111 => ⟨S1x1x768, .f32⟩
  | 112 => ⟨S4x577x768, .f32⟩
  | 113 => ⟨S4x577x768, .f32⟩
  | 114 => ⟨S4x577x768, .f32⟩
  | 115 => ⟨S_, .f32⟩
  | 116 => ⟨S4x577, .f32⟩
  | 117 => ⟨S4x577x1, .f32⟩
  | 118 => ⟨S_, .f32⟩
  | 119 => ⟨S4x577x1, .f32⟩
  | 120 => ⟨S4x577x1, .f32⟩
  | 121 => ⟨S4x577x768, .f32⟩
  | 122 => ⟨S4x577x768, .f32⟩
  | 123 => ⟨S4x577x768, .f32⟩
  | 124 => ⟨S_, .f32⟩
  | 125 => ⟨S4x577, .f32⟩
  | 126 => ⟨S4x577x1, .f32⟩
  | 127 => ⟨S_, .f32⟩
  | _ => ⟨S4x577x768, .f32⟩

abbrev hbmTy0_2 (i : Nat) : BufTy := match i % 128 with
  | 0 => ⟨S4x577x1, .f32⟩
  | 1 => ⟨S4x577x1, .f32⟩
  | 2 => ⟨S4x577x768, .f32⟩
  | 3 => ⟨S4x577x768, .f32⟩
  | 4 => ⟨S_, .f32⟩
  | 5 => ⟨S4x577x1, .f32⟩
  | 6 => ⟨S4x577x1, .f32⟩
  | 7 => ⟨S4x577x1, .f32⟩
  | 8 => ⟨S4x577x768, .f32⟩
  | 9 => ⟨S4x577x768, .f32⟩
  | 10 => ⟨S1x1x768, .f32⟩
  | 11 => ⟨S4x577x768, .f32⟩
  | 12 => ⟨S4x577x768, .f32⟩
  | 13 => ⟨S1x1x768, .f32⟩
  | 14 => ⟨S4x577x768, .f32⟩
  | 15 => ⟨S4x577x768, .f32⟩
  | 16 => ⟨S4x577x3072, .f32⟩
  | 17 => ⟨S1x1x3072, .f32⟩
  | 18 => ⟨S4x577x3072, .f32⟩
  | 19 => ⟨S4x577x3072, .f32⟩
  | 20 => ⟨S_, .f32⟩
  | 21 => ⟨S4x577x3072, .f32⟩
  | 22 => ⟨S4x577x3072, .f32⟩
  | 23 => ⟨S4x577x3072, .f32⟩
  | 24 => ⟨S_, .f32⟩
  | 25 => ⟨S4x577x3072, .f32⟩
  | 26 => ⟨S4x577x3072, .f32⟩
  | 27 => ⟨S4x577x3072, .f32⟩
  | 28 => ⟨S4x577x3072, .f32⟩
  | 29 => ⟨S4x577x768, .f32⟩
  | 30 => ⟨S1x1x768, .f32⟩
  | 31 => ⟨S4x577x768, .f32⟩
  | 32 => ⟨S4x577x768, .f32⟩
  | 33 => ⟨S4x577x768, .f32⟩
  | _ => ⟨S4x577x768, .f32⟩

abbrev hbmTy (i : Nat) : BufTy := match i / 128 with
  | 0 => hbmTy0_0 i
  | 1 => hbmTy0_1 i
  | 2 => hbmTy0_2 i
  | _ => ⟨S4x577x768, .f32⟩

abbrev bufTy : (tb : Table) → Fin (tcTables nBuf tb) → BufTy
  | .hbm, ⟨i, _⟩ => hbmTy i
  | _, _ => ⟨S4x577x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call0_v0 : Ref sig .tc := ⟨.hbm, 52, rfl⟩
abbrev main_call0_cst : Ref sig .tc := ⟨.hbm, 53, rfl⟩
abbrev main_call0_v1 : Ref sig .tc := ⟨.hbm, 54, rfl⟩
abbrev main_call0_v2 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_call1_v0 : Ref sig .tc := ⟨.hbm, 66, rfl⟩
abbrev main_call1_cst : Ref sig .tc := ⟨.hbm, 67, rfl⟩
abbrev main_call1_v1 : Ref sig .tc := ⟨.hbm, 68, rfl⟩
abbrev main_call1_v2 : Ref sig .tc := ⟨.hbm, 69, rfl⟩
abbrev main_v38 : Ref sig .tc := ⟨.hbm, 70, rfl⟩
abbrev main_cst_5 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_6 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v53 : Ref sig .tc := ⟨.hbm, 91, rfl⟩
abbrev main_cst_7 : Ref sig .tc := ⟨.hbm, 92, rfl⟩
abbrev main_v54 : Ref sig .tc := ⟨.hbm, 93, rfl⟩
abbrev main_v55 : Ref sig .tc := ⟨.hbm, 94, rfl⟩
abbrev main_values : Ref sig .tc := ⟨.hbm, 95, rfl⟩
abbrev main_indices : Ref sig .tc := ⟨.hbm, 96, rfl⟩
abbrev main_cst_8 : Ref sig .tc := ⟨.hbm, 97, rfl⟩
abbrev main_v56 : Ref sig .tc := ⟨.hbm, 98, rfl⟩
abbrev main_cst_9 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_10 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_11 : Ref sig .tc := ⟨.hbm, 125, rfl⟩
abbrev main_v81 : Ref sig .tc := ⟨.hbm, 126, rfl⟩
abbrev main_v82 : Ref sig .tc := ⟨.hbm, 127, rfl⟩
abbrev main_cst_12 : Ref sig .tc := ⟨.hbm, 128, rfl⟩
abbrev main_v83 : Ref sig .tc := ⟨.hbm, 129, rfl⟩
abbrev main_cst_13 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_14 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_c_15 : Ref sig .tc := ⟨.hbm, 151, rfl⟩
abbrev main_v103 : Ref sig .tc := ⟨.hbm, 152, rfl⟩
abbrev main_v104 : Ref sig .tc := ⟨.hbm, 153, rfl⟩
abbrev main_c_16 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_c_17 : Ref sig .tc := ⟨.hbm, 158, rfl⟩
abbrev main_v108 : Ref sig .tc := ⟨.hbm, 159, rfl⟩
abbrev main_v109 : Ref sig .tc := ⟨.hbm, 160, rfl⟩
abbrev main_c_18 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_c_19 : Ref sig .tc := ⟨.hbm, 165, rfl⟩
abbrev main_v113 : Ref sig .tc := ⟨.hbm, 166, rfl⟩
abbrev main_v114 : Ref sig .tc := ⟨.hbm, 167, rfl⟩
abbrev main_c_20 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_c_21 : Ref sig .tc := ⟨.hbm, 180, rfl⟩
abbrev main_v126 : Ref sig .tc := ⟨.hbm, 181, rfl⟩
abbrev main_v127 : Ref sig .tc := ⟨.hbm, 182, rfl⟩
abbrev main_c_22 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_c_23 : Ref sig .tc := ⟨.hbm, 187, rfl⟩
abbrev main_v131 : Ref sig .tc := ⟨.hbm, 188, rfl⟩
abbrev main_v132 : Ref sig .tc := ⟨.hbm, 189, rfl⟩
abbrev main_c_24 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_c_25 : Ref sig .tc := ⟨.hbm, 194, rfl⟩
abbrev main_v136 : Ref sig .tc := ⟨.hbm, 195, rfl⟩
abbrev main_v137 : Ref sig .tc := ⟨.hbm, 196, rfl⟩
abbrev main_c_26 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_cst_27 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_cst_28 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_cst_29 : Ref sig .tc := ⟨.hbm, 220, rfl⟩
abbrev main_v158 : Ref sig .tc := ⟨.hbm, 221, rfl⟩
abbrev main_cst_30 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_cst_31 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_cst_32 : Ref sig .tc := ⟨.hbm, 243, rfl⟩
abbrev main_v178 : Ref sig .tc := ⟨.hbm, 244, rfl⟩
abbrev main_v179 : Ref sig .tc := ⟨.hbm, 245, rfl⟩
abbrev main_cst_33 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_cst_34 : Ref sig .tc := ⟨.hbm, 252, rfl⟩
abbrev main_v185 : Ref sig .tc := ⟨.hbm, 253, rfl⟩
abbrev main_v186 : Ref sig .tc := ⟨.hbm, 254, rfl⟩
abbrev main_cst_35 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_cst_36 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_cst_37 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_cst_38 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩

abbrev nD : Nat := 1
abbrev τ : Topo := Topo.v7x

variable {F : FTy → Type} [FloatOps F]
-- ==== Proof.KernelRun.lean ====
/-
  The frame of the kernel program, for any float values: from any memory with zero counters every weakly fair execution
  terminates, the argument arrays hold what they held and every counter is back at zero. Nothing is said of the result, so
  the proof data say of the output's staging buffer only that it holds something after the body.
-/
module

public import proofs.«01_k».proof.Proof.Gen.Kernel.Frame
public import proofs.«01_k».proof.Proof.Gen.Kernel.Skeleton
public import Idealize.ShloMosaic.Lib.Pipeline.DatRel

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

/-! ## The body's run -/

set_option maxHeartbeats 4000000 in
/-- The body on any fifteen whole buffers: the inputs stay as they are and the output ends holding something. -/
theorem body_run (c : Dev nD) (i : grid0.Coords)
    (a1 : Memref sig .tc .vmem S1x640x768 .f32) (h1 : a1.IsWhole) (a2 : Memref sig .tc .vmem S768x3840 .bf16) (h2 : a2.IsWhole)
    (a3 : Memref sig .tc .vmem S1x3840 .f32) (h3 : a3.IsWhole) (a4 : Memref sig .tc .vmem S1x768 .f32) (h4 : a4.IsWhole)
    (a5 : Memref sig .tc .vmem S1x768 .f32) (h5 : a5.IsWhole) (a6 : Memref sig .tc .vmem S640x640 .f32) (h6 : a6.IsWhole)
    (a7 : Memref sig .tc .vmem S768x768 .bf16) (h7 : a7.IsWhole) (a8 : Memref sig .tc .vmem S1x768 .f32) (h8 : a8.IsWhole)
    (a9 : Memref sig .tc .vmem S1x768 .f32) (h9 : a9.IsWhole) (a10 : Memref sig .tc .vmem S1x768 .f32) (h10 : a10.IsWhole)
    (a11 : Memref sig .tc .vmem S768x3072 .bf16) (h11 : a11.IsWhole) (a12 : Memref sig .tc .vmem S1x3072 .f32) (h12 : a12.IsWhole)
    (a13 : Memref sig .tc .vmem S3072x768 .bf16) (h13 : a13.IsWhole) (a14 : Memref sig .tc .vmem S1x768 .f32) (h14 : a14.IsWhole)
    (a15 : Memref sig .tc .vmem S1x640x768 .f32) (h15 : a15.IsWhole)
    (x1 : FVec F S1x640x768 .f32) (x2 : FVec F S768x3840 .bf16) (x3 : FVec F S1x3840 .f32) (x4 x5 : FVec F S1x768 .f32)
    (x6 : FVec F S640x640 .f32) (x7 : FVec F S768x768 .bf16) (x8 x9 x10 : FVec F S1x768 .f32) (x11 : FVec F S768x3072 .bf16)
    (x12 : FVec F S1x3072 .f32) (x13 : FVec F S3072x768 .bf16) (x14 : FVec F S1x768 .f32) (x15 : FVec F S1x640x768 .f32)
    (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ owns (c : Thread nD τ) a8 fullShare x8 ∗ owns (c : Thread nD τ) a9 fullShare x9
        ∗ owns (c : Thread nD τ) a10 fullShare x10 ∗ owns (c : Thread nD τ) a11 fullShare x11 ∗ owns (c : Thread nD τ) a12 fullShare x12
        ∗ owns (c : Thread nD τ) a13 fullShare x13 ∗ owns (c : Thread nD τ) a14 fullShare x14 ∗ owns (c : Thread nD τ) a15 fullShare x15
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare x7 ∗ owns (c : Thread nD τ) a8 fullShare x8 ∗ owns (c : Thread nD τ) a9 fullShare x9
            ∗ owns (c : Thread nD τ) a10 fullShare x10 ∗ owns (c : Thread nD τ) a11 fullShare x11 ∗ owns (c : Thread nD τ) a12 fullShare x12
            ∗ owns (c : Thread nD τ) a13 fullShare x13 ∗ owns (c : Thread nD τ) a14 fullShare x14
            ∗ ∃ x, owns (c : Thread nD τ) a15 fullShare x) -∗ K ⟨⟩))
      ⊢ wp frame (wpE (defs₀ (F := F)) Variants.none c none) Set.univ
          (cc0__body i a1 h1 a2 h2 a3 h3 a4 h4 a5 h5 a6 h6 a7 h7 a8 h8 a9 h9 a10 h10 a11 h11 a12 h12 a13 h13 a14 h14 a15 h15) K := by
  simp only [cc0__body_eq_skeleton]; unfold cc0__body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩,
    ⟨%f15, %e15, H15⟩, Hk⟩
  sl_exec
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists f12; isplitr; · ipureintro; exact e12
    iexact H12
  isplitl [H13]
  · iexists f13; isplitr; · ipureintro; exact e13
    iexact H13
  isplitl [H14]
  · iexists f14; isplitr; · ipureintro; exact e14
    iexact H14
  iexists _, _; isplitr; swap; · iexact H15
  ipureintro; rfl

/-! ## The proof data -/

variable (m : (ℓ : Loc nD τ sig) → Buf (Elt F) ℓ) (ρ : Dev nD → PrngReg)

/-- The input block of point `t`, its rows past the array's end filled from `d`. -/
def xin (c : Dev nD) (t : Fin cfg0.N) (d : FVec F S1x640x768 .f32) : FVec F S1x640x768 .f32 :=
  win0_0.fill (grid0.coords t) d (iblk m c 0 t)

/-- Each array as the region finds it; every input block left in place. -/
def dats (_ : Fin 1) (c : Dev nD) : Dat τ (Elt F) Unit ℕ (UR sig nD τ) ℕ cfg0 c where
  A w := V m c (Pipeline.arrRef spec0 w)
  after w t := match w with
    | ⟨0, _⟩ => xin m c t fun _ => Scalar.ofBits .f32 0#32
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => fun _ => Scalar.ofBits .f32 0#32
  Φ _ := Pipeline.ΦA spec0 c
  q _ := fullShare
  owed _ := 0

/-- The output window is the one of which nothing is said. -/
def marked : Fin cfg0.W → Bool
  | ⟨14, _⟩ => true
  | _ => false

/-- The proof data, the output's window left free. -/
abbrev rdat (c : Dev nD) : RDat τ (Elt F) Unit ℕ (UR sig nD τ) ℕ cfg0 c := (dats m 0 c).toRRel marked fun _ _ _ => True

/-- The input's buffer has just been fetched. -/
theorem before_0 (c : Dev nD) (t : Fin cfg0.N) (d) : (dats m 0 c).before (0 : Fin 15) t d = xin m c t d := by
  unfold Dat.before; rw [if_pos (fetch0_0 t)]; rfl

set_option maxHeartbeats 4000000 in
/-- The body's obligation at each point. -/
theorem obligation (c : Dev nD) :
    BodyObligationRel (dats m 0 c) (defs₀ (F := F)) Variants.none () Set.univ marked (fun _ _ _ => True) := fun t => by
  rw [bigSep_W0, bigSep_W0]
  simp only [show marked 0 = false from rfl, show marked 1 = false from rfl, show marked 2 = false from rfl, show marked 3 = false from rfl,
    show marked 4 = false from rfl, show marked 5 = false from rfl, show marked 6 = false from rfl, show marked 7 = false from rfl,
    show marked 8 = false from rfl, show marked 9 = false from rfl, show marked 10 = false from rfl, show marked 11 = false from rfl,
    show marked 12 = false from rfl, show marked 13 = false from rfl, show marked 14 = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%Y, -, H14⟩⟩
  rw [before_0 m c t d0, before0_1_of m (dats m 0 c) rfl (fun _ => rfl) t d1, before0_2_of m (dats m 0 c) rfl (fun _ => rfl) t d2, before0_3_of m (dats m 0 c) rfl (fun _ => rfl) t d3, before0_4_of m (dats m 0 c) rfl (fun _ => rfl) t d4, before0_5_of m (dats m 0 c) rfl (fun _ => rfl) t d5, before0_6_of m (dats m 0 c) rfl (fun _ => rfl) t d6, before0_7_of m (dats m 0 c) rfl (fun _ => rfl) t d7, before0_8_of m (dats m 0 c) rfl (fun _ => rfl) t d8, before0_9_of m (dats m 0 c) rfl (fun _ => rfl) t d9, before0_10_of m (dats m 0 c) rfl (fun _ => rfl) t d10, before0_11_of m (dats m 0 c) rfl (fun _ => rfl) t d11, before0_12_of m (dats m 0 c) rfl (fun _ => rfl) t d12, before0_13_of m (dats m 0 c) rfl (fun _ => rfl) t d13]
  iapply (body_run c (grid0.coords t) (stage0_0 (cfg0.slots t 0)) (hstage0_0 _) (stage0_1 (cfg0.slots t 1)) (hstage0_1 _) (stage0_2 (cfg0.slots t 2)) (hstage0_2 _) (stage0_3 (cfg0.slots t 3)) (hstage0_3 _) (stage0_4 (cfg0.slots t 4)) (hstage0_4 _) (stage0_5 (cfg0.slots t 5)) (hstage0_5 _) (stage0_6 (cfg0.slots t 6)) (hstage0_6 _) (stage0_7 (cfg0.slots t 7)) (hstage0_7 _) (stage0_8 (cfg0.slots t 8)) (hstage0_8 _) (stage0_9 (cfg0.slots t 9)) (hstage0_9 _) (stage0_10 (cfg0.slots t 10)) (hstage0_10 _) (stage0_11 (cfg0.slots t 11)) (hstage0_11 _) (stage0_12 (cfg0.slots t 12)) (hstage0_12 _) (stage0_13 (cfg0.slots t 13)) (hstage0_13 _) (stage0_14 (cfg0.slots t 14)) (hstage0_14 _)
    (xin m c t d0) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Y _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, ⟨%X, H14⟩⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) (xin m c t fun _ => Scalar.ofBits .f32 0#32)))
    unfold xin; rw [win0_0.cut_fill]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists X; isplitr; swap; · iexact H14
  ipureintro; trivial

/-! ## The run -/

set_option backward.isDefEq.respectTransparency.types false in
/-- From any memory with zero counters: every weakly fair execution of the program terminates, the arrays ending as the
    proof data say and every counter at zero. -/
theorem run : θ_run defs (onTc (τ := τ) (main (F := F))) (s₀ m ρ)
    (fun r => RDat.FramePost cfg0 (rdat m) (V m) r ∧ r.2.sem = fun _ => 0) :=
  RDat.θ_run_frame cfgs (0 : Fin 1) launch0 defs₀ Variants.none (rdat m) m ρ main
    (hbody := fun c => (obligation m c).toRRel)
    (hshare := fun c w => (dats m 0 c).share_full (fun _ => rfl) w) (howed := fun _ _ => rfl)
    (V := V m) (hmain := hmain m Variants.none) (hA := fun _ _ => rfl) (hΦ := fun _ _ => rfl)
    (Q' := fun r => RDat.FramePost cfg0 (rdat m) (V m) r ∧ r.2.sem = fun _ => 0) (hQ' := fun _ h => h)

/-- What a final state says of the argument arrays: each holds what it held. -/
theorem args_kept {r : PUnit × MemSt nD τ sig (Elt F)} (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) := by
  have hr : ∀ b : Ref sig .tc, b ∈ Pipeline.restRefs sig cfg0.spec → r.2.mem ((c.tc : Thread nD τ).loc b) = V m c b := (h c).2
  refine ⟨(RDat.FramePost.arr_in h c 0 rfl).trans (V_main_arg0 m c), (hr main_arg1 (Pipeline.mem_restRefs_of main_arg1 (by decide) (by decide))).trans (V_main_arg1 m c),
    (hr main_arg2 (Pipeline.mem_restRefs_of main_arg2 (by decide) (by decide))).trans (V_main_arg2 m c),
    (hr main_arg3 (Pipeline.mem_restRefs_of main_arg3 (by decide) (by decide))).trans (V_main_arg3 m c),
    (hr main_arg4 (Pipeline.mem_restRefs_of main_arg4 (by decide) (by decide))).trans (V_main_arg4 m c),
    (hr main_arg5 (Pipeline.mem_restRefs_of main_arg5 (by decide) (by decide))).trans (V_main_arg5 m c),
    (hr main_arg6 (Pipeline.mem_restRefs_of main_arg6 (by decide) (by decide))).trans (V_main_arg6 m c),
    (hr main_arg7 (Pipeline.mem_restRefs_of main_arg7 (by decide) (by decide))).trans (V_main_arg7 m c),
    (hr main_arg8 (Pipeline.mem_restRefs_of main_arg8 (by decide) (by decide))).trans (V_main_arg8 m c),
    (hr main_arg9 (Pipeline.mem_restRefs_of main_arg9 (by decide) (by decide))).trans (V_main_arg9 m c),
    (hr main_arg10 (Pipeline.mem_restRefs_of main_arg10 (by decide) (by decide))).trans (V_main_arg10 m c),
    (hr main_arg11 (Pipeline.mem_restRefs_of main_arg11 (by decide) (by decide))).trans (V_main_arg11 m c),
    (hr main_arg12 (Pipeline.mem_restRefs_of main_arg12 (by decide) (by decide))).trans (V_main_arg12 m c),
    (hr main_arg13 (Pipeline.mem_restRefs_of main_arg13 (by decide) (by decide))).trans (V_main_arg13 m c),
    (hr main_arg14 (Pipeline.mem_restRefs_of main_arg14 (by decide) (by decide))).trans (V_main_arg14 m c),
    (hr main_arg15 (Pipeline.mem_restRefs_of main_arg15 (by decide) (by decide))).trans (V_main_arg15 m c),
    (hr main_arg16 (Pipeline.mem_restRefs_of main_arg16 (by decide) (by decide))).trans (V_main_arg16 m c),
    (hr main_arg17 (Pipeline.mem_restRefs_of main_arg17 (by decide) (by decide))).trans (V_main_arg17 m c)⟩

end Cert.Kernel.Run
-- ==== Proof.Run.lean ====
/-
  The run of the idealized kernel program, for any float values.

  The kernel has one region of four grid points, one per batch entry. The input block of a point has 640 rows, of which
  577 lie inside the array; the other 63 staging rows hold words nothing names. So the proof data say of the output's
  staging buffer only that it holds what the body computes (`outB`) from SOME filling of those 63 rows, and the run ends
  with each batch entry of the result array being the first 577 rows of such a computation.
-/
module

public import proofs.«01_k».proof.Proof.Gen.KernelIdeal.Frame
public import proofs.«01_k».proof.Proof.Gen.KernelIdeal.Skeleton
public import Idealize.ShloMosaic.Lib.Pipeline.DatRel
public import Idealize.ShloMosaic.Lib.Pipeline.ArrRel
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F] [Named F] [∀ e, Nonempty (Elt F e)]

local notation "𝕄" => MT nD τ sig Unit (Elt F) ℕ (UR sig nD τ) ℕ

/-! ## What the body computes -/

/-- The row and column numbers of a square of scores. -/
abbrev rowIx : IVec S640x640 32 := iota .tc S640x640 32 [0] iota_S640x640_d0_w32
abbrev colIx : IVec S640x640 32 := iota .tc S640x640 32 [1] iota_S640x640_d1_w32

/-- The attention bias, from the scaled scores and their row maxima: the sixteen halvings, then the logarithm of the
    softmax over the selected columns. -/
def biasOf (st : FVec F S640x640 .f32) (m0 : FVec F S640x1 .f32) : FVec F S640x640 .f32 :=
  let l3 := k0_pay20 st m0
  let h3 := k0_pay21 st m0
  let a := k0_pay32 st l3 h3
  let b := k0_pay33 st l3 h3
  let c := k0_pay34 st l3 h3
  let d := k0_pay35 (F := F)
  let a1 := k0_pay46 st a b c d
  let b1 := k0_pay47 st a b c d
  let c1 := k0_pay48 st a b c d
  let d1 := k0_pay49 st a b c d
  let z : F .f32 := Scalar.ofBits .f32 0x00000000#32
  let e := k0_pay63 (F := F)
  let a2 := k0_pay59 st a1 b1 c1 d1
  let b2 := k0_pay60 st a1 b1 c1 d1
  let c2 := k0_pay61 st a1 b1 c1 d1
  let d2 := k0_pay62 st a1 b1 c1 d1
  k0_pay76 rowIx colIx st m0 (k0_pay73 st a2 b2 c2 d2 z e) (k0_pay74 st a2 b2 c2 d2 z e) (k0_pay75 st a2 b2 c2 d2 z e)

/-- The first head's softmax numerators, from the same values as the bias. -/
def head0Of (q k : FVec F S640x768 .bf16) (st : FVec F S640x640 .f32) (m0 : FVec F S640x1 .f32) : FVec F S640x640 .f32 :=
  let l3 := k0_pay20 st m0
  let h3 := k0_pay21 st m0
  let a := k0_pay32 st l3 h3
  let b := k0_pay33 st l3 h3
  let c := k0_pay34 st l3 h3
  let d := k0_pay35 (F := F)
  let a1 := k0_pay46 st a b c d
  let b1 := k0_pay47 st a b c d
  let c1 := k0_pay48 st a b c d
  let d1 := k0_pay49 st a b c d
  let z : F .f32 := Scalar.ofBits .f32 0x00000000#32
  let e := k0_pay63 (F := F)
  let a2 := k0_pay59 st a1 b1 c1 d1
  let b2 := k0_pay60 st a1 b1 c1 d1
  let c2 := k0_pay61 st a1 b1 c1 d1
  let d2 := k0_pay62 st a1 b1 c1 d1
  k0_pay77 q k rowIx colIx st m0 (k0_pay73 st a2 b2 c2 d2 z e) (k0_pay74 st a2 b2 c2 d2 z e) (k0_pay75 st a2 b2 c2 d2 z e)

/-- Attention under a bias, the output projection and the residual sum. `e0` holds the first head's numerators. -/
def attnOf (q k v : FVec F S640x768 .bf16) (bias e0 : FVec F S640x640 .f32) (wp : FVec F S768x768 .bf16)
    (bp : FVec F S1x768 .f32) (x : FVec F S1x640x768 .f32) : FVec F S640x768 .f32 :=
  k0_pay94 q k v bias (k0_pay78 v e0) (k0_pay79 q k v bias) (k0_pay80 q k v bias) (k0_pay83 v bias (k0_pay81 q) (k0_pay82 k))
    (k0_pay84 q k v bias) (k0_pay86 v (k0_pay85 q k bias)) (k0_pay87 q k v bias) (k0_pay88 q k v bias)
    (k0_pay91 v bias (k0_pay89 q) (k0_pay90 k)) (k0_pay92 q k v bias) (k0_pay93 q k bias) wp bp x

/-- The residual stream after attention, from the input block and the weights. -/
def midB (x1 : FVec F S1x640x768 .f32) (x2 : FVec F S768x3840 .bf16) (x3 : FVec F S1x3840 .f32) (x4 x5 : FVec F S1x768 .f32)
    (x6 : FVec F S640x640 .f32) (x7 : FVec F S768x768 .bf16) (x8 : FVec F S1x768 .f32) : FVec F S640x768 .f32 :=
  let pr := k0_pay2 x1 x4 x5 x2
  let st := k0_pay7 pr x3 x6
  let m0 := k0_pay8 pr x3 x6
  attnOf (k0_pay4 pr x3) (k0_pay5 pr x3) (k0_pay6 pr x3) (biasOf st m0) (head0Of (k0_pay4 pr x3) (k0_pay5 pr x3) st m0) x7 x8 x1

/-- What the body stores, from the contents of the fourteen input buffers. -/
def outB (x1 : FVec F S1x640x768 .f32) (x2 : FVec F S768x3840 .bf16) (x3 : FVec F S1x3840 .f32) (x4 x5 : FVec F S1x768 .f32)
    (x6 : FVec F S640x640 .f32) (x7 : FVec F S768x768 .bf16) (x8 x9 x10 : FVec F S1x768 .f32) (x11 : FVec F S768x3072 .bf16)
    (x12 : FVec F S1x3072 .f32) (x13 : FVec F S3072x768 .bf16) (x14 : FVec F S1x768 .f32) : FVec F S1x640x768 .f32 :=
  k0_pay1 (k0_pay96 (midB x1 x2 x3 x4 x5 x6 x7 x8) (k0_pay95 x9) x10 x11 x12 x13) x14

/-! ## The body's run -/

theorem off2 : (![0, 0] : Fin 2 → Nat) = fun _ => 0 := funext fun a => by fin_cases a <;> rfl
theorem off3 : (![0, 0, 0] : Fin 3 → Nat) = fun _ => 0 := funext fun a => by fin_cases a <;> rfl

set_option maxHeartbeats 4000000 in
/-- The body on any fifteen whole buffers: the inputs stay as they are and the output ends holding `outB` of them. -/
theorem body_run (c : Dev nD) (i : grid0.Coords)
    (a1 : Memref sig .tc .vmem S1x640x768 .f32) (h1 : a1.IsWhole) (a2 : Memref sig .tc .vmem S768x3840 .bf16) (h2 : a2.IsWhole)
    (a3 : Memref sig .tc .vmem S1x3840 .f32) (h3 : a3.IsWhole) (a4 : Memref sig .tc .vmem S1x768 .f32) (h4 : a4.IsWhole)
    (a5 : Memref sig .tc .vmem S1x768 .f32) (h5 : a5.IsWhole) (a6 : Memref sig .tc .vmem S640x640 .f32) (h6 : a6.IsWhole)
    (a7 : Memref sig .tc .vmem S768x768 .bf16) (h7 : a7.IsWhole) (a8 : Memref sig .tc .vmem S1x768 .f32) (h8 : a8.IsWhole)
    (a9 : Memref sig .tc .vmem S1x768 .f32) (h9 : a9.IsWhole) (a10 : Memref sig .tc .vmem S1x768 .f32) (h10 : a10.IsWhole)
    (a11 : Memref sig .tc .vmem S768x3072 .bf16) (h11 : a11.IsWhole) (a12 : Memref sig .tc .vmem S1x3072 .f32) (h12 : a12.IsWhole)
    (a13 : Memref sig .tc .vmem S3072x768 .bf16) (h13 : a13.IsWhole) (a14 : Memref sig .tc .vmem S1x768 .f32) (h14 : a14.IsWhole)
    (a15 : Memref sig .tc .vmem S1x640x768 .f32) (h15 : a15.IsWhole)
    (x1 : FVec F S1x640x768 .f32) (x2 : FVec F S768x3840 .bf16) (x3 : FVec F S1x3840 .f32) (x4 x5 : FVec F S1x768 .f32)
    (x6 : FVec F S640x640 .f32) (x7 : FVec F S768x768 .bf16) (x8 x9 x10 : FVec F S1x768 .f32) (x11 : FVec F S768x3072 .bf16)
    (x12 : FVec F S1x3072 .f32) (x13 : FVec F S3072x768 .bf16) (x14 : FVec F S1x768 .f32) (x15 : FVec F S1x640x768 .f32)
    (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ owns (c : Thread nD τ) a8 fullShare x8 ∗ owns (c : Thread nD τ) a9 fullShare x9
        ∗ owns (c : Thread nD τ) a10 fullShare x10 ∗ owns (c : Thread nD τ) a11 fullShare x11 ∗ owns (c : Thread nD τ) a12 fullShare x12
        ∗ owns (c : Thread nD τ) a13 fullShare x13 ∗ owns (c : Thread nD τ) a14 fullShare x14 ∗ owns (c : Thread nD τ) a15 fullShare x15
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare x7 ∗ owns (c : Thread nD τ) a8 fullShare x8 ∗ owns (c : Thread nD τ) a9 fullShare x9
            ∗ owns (c : Thread nD τ) a10 fullShare x10 ∗ owns (c : Thread nD τ) a11 fullShare x11 ∗ owns (c : Thread nD τ) a12 fullShare x12
            ∗ owns (c : Thread nD τ) a13 fullShare x13 ∗ owns (c : Thread nD τ) a14 fullShare x14
            ∗ owns (c : Thread nD τ) a15 fullShare (outB x1 x2 x3 x4 x5 x6 x7 x8 x9 x10 x11 x12 x13 x14)) -∗ K ⟨⟩))
      ⊢ wp frame (wpE (defs₀ (F := F)) Variants.none c none) Set.univ
          (cc0__body i a1 h1 a2 h2 a3 h3 a4 h4 a5 h5 a6 h6 a7 h7 a8 h8 a9 h9 a10 h10 a11 h11 a12 h12 a13 h13 a14 h14 a15 h15) K := by
  simp only [cc0__body_eq_skeleton]; unfold cc0__body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩,
    ⟨%f15, %e15, H15⟩, Hk⟩
  sl_exec
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists f12; isplitr; · ipureintro; exact e12
    iexact H12
  isplitl [H13]
  · iexists f13; isplitr; · ipureintro; exact e13
    iexact H13
  isplitl [H14]
  · iexists f14; isplitr; · ipureintro; exact e14
    iexact H14
  iexists _; isplitr; swap; · iexact H15
  ipureintro
  refine (View.read_writes_eq_canon _ _ _ fun y => ⟨_, List.mem_singleton_self _, ?_⟩).trans ?_
  · show y ∈ (Rect.unit ![0, 0, 0] S1x640x768.size inb_S1x640x768_S1x640x768_0_0_0).set
    rw [Rect.mem_set_unit, off3]
    exact fun a => ⟨Nat.zero_le _, by rw [Nat.zero_add]; exact (y a).isLt⟩
  refine (View.canon_cons_unit_zero (S := S1x640x768) off3 _ _ _).trans ?_
  have r1 : a1.view.readAt (Elt F) (Rect.unit (s := S1x640x768) ![0, 0, 0] S1x640x768.size inb_S1x640x768_S1x640x768_0_0_0).toLoadRect f1 = x1 :=
    (View.ld_unit_zero (S := S1x640x768) off3 _ _).trans e1
  have r2 : a2.view.readAt (Elt F) (Rect.unit (s := S768x3840) ![0, 0] S768x3840.size inb_S768x3840_S768x3840_0_0).toLoadRect f2 = x2 :=
    (View.ld_unit_zero (S := S768x3840) off2 _ _).trans e2
  have r3 : a3.view.readAt (Elt F) (Rect.unit (s := S1x3840) ![0, 0] S1x3840.size inb_S1x3840_S1x3840_0_0).toLoadRect f3 = x3 :=
    (View.ld_unit_zero (S := S1x3840) off2 _ _).trans e3
  have r4 : a4.view.readAt (Elt F) (Rect.unit (s := S1x768) ![0, 0] S1x768.size inb_S1x768_S1x768_0_0).toLoadRect f4 = x4 :=
    (View.ld_unit_zero (S := S1x768) off2 _ _).trans e4
  have r5 : a5.view.readAt (Elt F) (Rect.unit (s := S1x768) ![0, 0] S1x768.size inb_S1x768_S1x768_0_0).toLoadRect f5 = x5 :=
    (View.ld_unit_zero (S := S1x768) off2 _ _).trans e5
  have r6 : a6.view.readAt (Elt F) (Rect.unit (s := S640x640) ![0, 0] S640x640.size inb_S640x640_S640x640_0_0).toLoadRect f6 = x6 :=
    (View.ld_unit_zero (S := S640x640) off2 _ _).trans e6
  have r7 : a7.view.readAt (Elt F) (Rect.unit (s := S768x768) ![0, 0] S768x768.size inb_S768x768_S768x768_0_0).toLoadRect f7 = x7 :=
    (View.ld_unit_zero (S := S768x768) off2 _ _).trans e7
  have r8 : a8.view.readAt (Elt F) (Rect.unit (s := S1x768) ![0, 0] S1x768.size inb_S1x768_S1x768_0_0).toLoadRect f8 = x8 :=
    (View.ld_unit_zero (S := S1x768) off2 _ _).trans e8
  have r9 : a9.view.readAt (Elt F) (Rect.unit (s := S1x768) ![0, 0] S1x768.size inb_S1x768_S1x768_0_0).toLoadRect f9 = x9 :=
    (View.ld_unit_zero (S := S1x768) off2 _ _).trans e9
  have r10 : a10.view.readAt (Elt F) (Rect.unit (s := S1x768) ![0, 0] S1x768.size inb_S1x768_S1x768_0_0).toLoadRect f10 = x10 :=
    (View.ld_unit_zero (S := S1x768) off2 _ _).trans e10
  have r11 : a11.view.readAt (Elt F) (Rect.unit (s := S768x3072) ![0, 0] S768x3072.size inb_S768x3072_S768x3072_0_0).toLoadRect f11 = x11 :=
    (View.ld_unit_zero (S := S768x3072) off2 _ _).trans e11
  have r12 : a12.view.readAt (Elt F) (Rect.unit (s := S1x3072) ![0, 0] S1x3072.size inb_S1x3072_S1x3072_0_0).toLoadRect f12 = x12 :=
    (View.ld_unit_zero (S := S1x3072) off2 _ _).trans e12
  have r13 : a13.view.readAt (Elt F) (Rect.unit (s := S3072x768) ![0, 0] S3072x768.size inb_S3072x768_S3072x768_0_0).toLoadRect f13 = x13 :=
    (View.ld_unit_zero (S := S3072x768) off2 _ _).trans e13
  have r14 : a14.view.readAt (Elt F) (Rect.unit (s := S1x768) ![0, 0] S1x768.size inb_S1x768_S1x768_0_0).toLoadRect f14 = x14 :=
    (View.ld_unit_zero (S := S1x768) off2 _ _).trans e14
  rw [← r1, ← r2, ← r3, ← r4, ← r5, ← r6, ← r7, ← r8, ← r9, ← r10, ← r11, ← r12, ← r13, ← r14]
  rfl

/-! ## The proof data -/

variable (m : (ℓ : Loc nD τ sig) → Buf (Elt F) ℓ) (ρ : Dev nD → PrngReg)

/-- The input block of point `t`, its rows past the array's end filled from `d`. -/
def xin (c : Dev nD) (t : Fin cfg0.N) (d : FVec F S1x640x768 .f32) : FVec F S1x640x768 .f32 :=
  win0_0.fill (grid0.coords t) d (iblk m c 0 t)

/-- What the body stores at point `t` when the staging rows past the array's end hold `d`'s. -/
def outAt (c : Dev nD) (t : Fin cfg0.N) (d : FVec F S1x640x768 .f32) : FVec F S1x640x768 .f32 :=
  outB (xin m c t d) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t)

/-- Each array as the region finds it; every input block left in place. -/
def dats (_ : Fin 1) (c : Dev nD) : Dat τ (Elt F) Unit ℕ (UR sig nD τ) ℕ cfg0 c where
  A w := V m c (Pipeline.arrRef spec0 w)
  after w t := match w with
    | ⟨0, _⟩ => xin m c t fun _ => Scalar.ofBits .f32 0#32
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => fun _ => Scalar.ofBits .f32 0#32
  Φ _ := Pipeline.ΦA spec0 c
  q _ := fullShare
  owed _ := 0

/-- The output window is the one held to a relation. -/
def marked : Fin cfg0.W → Bool
  | ⟨14, _⟩ => true
  | _ => false

/-- What the body leaves in the output's buffer: its computation from some filling of the staging rows. -/
def rel (c : Dev nD) (w : Fin cfg0.W) (t : Fin cfg0.N) : ((cfg0.win w).block.Idx → Elt F (cfg0.win w).elt) → Prop :=
  match w with
  | ⟨14, _⟩ => fun X => ∃ d, X = outAt m c t d
  | _ => fun _ => True

/-- The proof data, the output's window held to `rel`. -/
abbrev rdat (c : Dev nD) : RDat τ (Elt F) Unit ℕ (UR sig nD τ) ℕ cfg0 c := (dats m 0 c).toRRel marked (rel m c)

/-- The input's buffer has just been fetched. -/
theorem before_0 (c : Dev nD) (t : Fin cfg0.N) (d) : (dats m 0 c).before (0 : Fin 15) t d = xin m c t d := by
  unfold Dat.before; rw [if_pos (fetch0_0 t)]; rfl

set_option maxHeartbeats 4000000 in
/-- The body's obligation at each point. -/
theorem obligation (c : Dev nD) :
    BodyObligationRel (dats m 0 c) (defs₀ (F := F)) Variants.none () Set.univ marked (rel m c) := fun t => by
  rw [bigSep_W0, bigSep_W0]
  simp only [show marked 0 = false from rfl, show marked 1 = false from rfl, show marked 2 = false from rfl, show marked 3 = false from rfl,
    show marked 4 = false from rfl, show marked 5 = false from rfl, show marked 6 = false from rfl, show marked 7 = false from rfl,
    show marked 8 = false from rfl, show marked 9 = false from rfl, show marked 10 = false from rfl, show marked 11 = false from rfl,
    show marked 12 = false from rfl, show marked 13 = false from rfl, show marked 14 = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%Y, -, H14⟩⟩
  rw [before_0 m c t d0, before0_1_of m (dats m 0 c) rfl (fun _ => rfl) t d1, before0_2_of m (dats m 0 c) rfl (fun _ => rfl) t d2, before0_3_of m (dats m 0 c) rfl (fun _ => rfl) t d3, before0_4_of m (dats m 0 c) rfl (fun _ => rfl) t d4, before0_5_of m (dats m 0 c) rfl (fun _ => rfl) t d5, before0_6_of m (dats m 0 c) rfl (fun _ => rfl) t d6, before0_7_of m (dats m 0 c) rfl (fun _ => rfl) t d7, before0_8_of m (dats m 0 c) rfl (fun _ => rfl) t d8, before0_9_of m (dats m 0 c) rfl (fun _ => rfl) t d9, before0_10_of m (dats m 0 c) rfl (fun _ => rfl) t d10, before0_11_of m (dats m 0 c) rfl (fun _ => rfl) t d11, before0_12_of m (dats m 0 c) rfl (fun _ => rfl) t d12, before0_13_of m (dats m 0 c) rfl (fun _ => rfl) t d13]
  iapply (body_run c (grid0.coords t) (stage0_0 (cfg0.slots t 0)) (hstage0_0 _) (stage0_1 (cfg0.slots t 1)) (hstage0_1 _) (stage0_2 (cfg0.slots t 2)) (hstage0_2 _) (stage0_3 (cfg0.slots t 3)) (hstage0_3 _) (stage0_4 (cfg0.slots t 4)) (hstage0_4 _) (stage0_5 (cfg0.slots t 5)) (hstage0_5 _) (stage0_6 (cfg0.slots t 6)) (hstage0_6 _) (stage0_7 (cfg0.slots t 7)) (hstage0_7 _) (stage0_8 (cfg0.slots t 8)) (hstage0_8 _) (stage0_9 (cfg0.slots t 9)) (hstage0_9 _) (stage0_10 (cfg0.slots t 10)) (hstage0_10 _) (stage0_11 (cfg0.slots t 11)) (hstage0_11 _) (stage0_12 (cfg0.slots t 12)) (hstage0_12 _) (stage0_13 (cfg0.slots t 13)) (hstage0_13 _) (stage0_14 (cfg0.slots t 14)) (hstage0_14 _)
    (xin m c t d0) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Y _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) (xin m c t fun _ => Scalar.ofBits .f32 0#32)))
    unfold xin; rw [win0_0.cut_fill]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists _; isplitr; swap; · iexact H14
  ipureintro; exact ⟨d0, rfl⟩

/-! ## The run -/

set_option backward.isDefEq.respectTransparency.types false in
/-- From any memory with zero counters: every weakly fair execution of the program terminates, the arrays ending as the
    proof data say and every counter at zero. -/
theorem run : θ_run defs (onTc (τ := τ) (main (F := F))) (s₀ m ρ)
    (fun r => RDat.FramePost cfg0 (rdat m) (V m) r ∧ r.2.sem = fun _ => 0) :=
  RDat.θ_run_frame cfgs (0 : Fin 1) launch0 defs₀ Variants.none (rdat m) m ρ main
    (hbody := fun c => (obligation m c).toRRel)
    (hshare := fun c w => (dats m 0 c).share_full (fun _ => rfl) w) (howed := fun _ _ => rfl)
    (V := V m) (hmain := hmain m Variants.none) (hA := fun _ _ => rfl) (hΦ := fun _ _ => rfl)
    (Q' := fun r => RDat.FramePost cfg0 (rdat m) (V m) r ∧ r.2.sem = fun _ => 0) (hQ' := fun _ h => h)

/-- What a final state says of the argument arrays: each holds what it held. -/
theorem args_kept {r : PUnit × MemSt nD τ sig (Elt F)} (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) := by
  have hr : ∀ b : Ref sig .tc, b ∈ Pipeline.restRefs sig cfg0.spec → r.2.mem ((c.tc : Thread nD τ).loc b) = V m c b := (h c).2
  refine ⟨(RDat.FramePost.arr_in h c 0 rfl).trans (V_main_arg0 m c), (hr main_arg1 (Pipeline.mem_restRefs_of main_arg1 (by decide) (by decide))).trans (V_main_arg1 m c),
    (hr main_arg2 (Pipeline.mem_restRefs_of main_arg2 (by decide) (by decide))).trans (V_main_arg2 m c),
    (hr main_arg3 (Pipeline.mem_restRefs_of main_arg3 (by decide) (by decide))).trans (V_main_arg3 m c),
    (hr main_arg4 (Pipeline.mem_restRefs_of main_arg4 (by decide) (by decide))).trans (V_main_arg4 m c),
    (hr main_arg5 (Pipeline.mem_restRefs_of main_arg5 (by decide) (by decide))).trans (V_main_arg5 m c),
    (hr main_arg6 (Pipeline.mem_restRefs_of main_arg6 (by decide) (by decide))).trans (V_main_arg6 m c),
    (hr main_arg7 (Pipeline.mem_restRefs_of main_arg7 (by decide) (by decide))).trans (V_main_arg7 m c),
    (hr main_arg8 (Pipeline.mem_restRefs_of main_arg8 (by decide) (by decide))).trans (V_main_arg8 m c),
    (hr main_arg9 (Pipeline.mem_restRefs_of main_arg9 (by decide) (by decide))).trans (V_main_arg9 m c),
    (hr main_arg10 (Pipeline.mem_restRefs_of main_arg10 (by decide) (by decide))).trans (V_main_arg10 m c),
    (hr main_arg11 (Pipeline.mem_restRefs_of main_arg11 (by decide) (by decide))).trans (V_main_arg11 m c),
    (hr main_arg12 (Pipeline.mem_restRefs_of main_arg12 (by decide) (by decide))).trans (V_main_arg12 m c),
    (hr main_arg13 (Pipeline.mem_restRefs_of main_arg13 (by decide) (by decide))).trans (V_main_arg13 m c),
    (hr main_arg14 (Pipeline.mem_restRefs_of main_arg14 (by decide) (by decide))).trans (V_main_arg14 m c),
    (hr main_arg15 (Pipeline.mem_restRefs_of main_arg15 (by decide) (by decide))).trans (V_main_arg15 m c),
    (hr main_arg16 (Pipeline.mem_restRefs_of main_arg16 (by decide) (by decide))).trans (V_main_arg16 m c),
    (hr main_arg17 (Pipeline.mem_restRefs_of main_arg17 (by decide) (by decide))).trans (V_main_arg17 m c)⟩

/-- What a final state says of the result: at each index it holds what the body computes for that batch entry, from
    some filling of the staging rows past the array's end. -/
theorem result_of {r : PUnit × MemSt nD τ sig (Elt F)} (h : RDat.FramePost cfg0 (rdat m) (V m) r) (c : Dev nD)
    (i : S4x577x768.Idx) :
    ∃ d : FVec F S1x640x768 .f32, ∃ t : Fin cfg0.N, ∃ y : (win0_14.xblock (grid0.coords t)).Idx,
      (win0_14.blk t).view.emb y = i ∧
      (r.2.mem ((c.tc : Thread nD τ).loc main_v15) : FVec F S4x577x768 .f32) i = outAt m c t d (win0_14.xinj (grid0.coords t) y) := by
  obtain ⟨after, hL, hA⟩ := RDat.FramePost.exists_exact h c
  have h14 := hA 14
  have key := Dat.arrAt_forall_of_covers ((rdat m c).withAfter after) 14
    (fun i x => ∃ d : FVec F S1x640x768 .f32, ∃ t : Fin cfg0.N, ∃ y : (win0_14.xblock (grid0.coords t)).Idx,
      (win0_14.blk t).view.emb y = i ∧ x = outAt m c t d (win0_14.xinj (grid0.coords t) y)) (by decide +kernel) (fun t hf y => by
        obtain ⟨d, hd⟩ := (dats m 0 c).toRRel_leaves rfl (hL 14 t hf)
        exact ⟨d, t, y, rfl, congrFun hd _⟩) i
  obtain ⟨d, t, y, e, hx⟩ := key
  exact ⟨d, t, y, e, (congrFun h14 i).trans hx⟩

end Cert.KernelIdeal.Run
-- ==== Proof.Reals.lean ====
/-
  Finite extended reals, and the numbers that the two programs' constants stand for.
-/
module

public import Idealize.ShloMosaic.Lib.Pointwise

@[expose] public section

noncomputable section

namespace Cert.Math

open Idealize.ShloMosaic

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.add {x y : EReal} (hx : IsR x) (hy : IsR y) : IsR (x + y) := by
  obtain ⟨a, rfl⟩ := hx; obtain ⟨b, rfl⟩ := hy; exact ⟨a + b, by push_cast; rfl⟩

theorem IsR.sub {x y : EReal} (hx : IsR x) (hy : IsR y) : IsR (x - y) := by
  obtain ⟨a, rfl⟩ := hx; obtain ⟨b, rfl⟩ := hy; exact ⟨a - b, by push_cast; rfl⟩

theorem IsR.mul {x y : EReal} (hx : IsR x) (hy : IsR y) : IsR (x * y) := by
  obtain ⟨a, rfl⟩ := hx; obtain ⟨b, rfl⟩ := hy; exact ⟨a * b, by push_cast; rfl⟩

/-- Coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type} [Fintype ι] {f : ι → EReal} (h : ∀ i, IsR (f i)) : IsR (∑ i, f i) := by
  choose g hg using h
  exact ⟨∑ i, g i, by rw [coe_sum]; exact Finset.sum_congr rfl fun i _ => hg i⟩

theorem IsR.max {x y : EReal} (hx : IsR x) (hy : IsR y) : IsR (Max.max x y) := by
  rcases max_choice x y with h | h <;> rw [h] <;> assumption

theorem div_coe_coe {a b : ℝ} (hb : b ≠ 0) : Ideal.div (a : EReal) (b : EReal) = ((a / b : ℝ) : EReal) := by
  rw [Ideal.div_coe hb, ← EReal.coe_mul]; congr 1; ring

theorem IsR.div {x y : EReal} (hx : IsR x) (hy : IsR y) (h0 : y ≠ 0) : IsR (Ideal.div x y) := by
  obtain ⟨a, rfl⟩ := hx; obtain ⟨b, rfl⟩ := hy
  exact ⟨a / b, div_coe_coe (by rintro rfl; exact h0 rfl)⟩

theorem sqrt_coe {a : ℝ} (h : 0 ≤ a) : Ideal.sqrt (a : EReal) = ((Real.sqrt a : ℝ) : EReal) :=
  if_neg (not_lt.2 h)

theorem exp_coe (a : ℝ) : Ideal.exp (a : EReal) = ((Real.exp a : ℝ) : EReal) := rfl

theorem exp_bot : Ideal.exp ⊥ = 0 := rfl

theorem log_coe {a : ℝ} (h : 0 < a) : Ideal.log (a : EReal) = ((Real.log a : ℝ) : EReal) :=
  if_neg (not_le.2 h)

/-- A finite number is one whose absolute value is below infinity. -/
theorem isR_of_abs_lt {x : EReal} (h : max x (-x) < ⊤) : IsR x := by
  induction x with
  | bot => simp at h
  | top => simp at h
  | coe r => exact ⟨r, rfl⟩

/-! ## The constants -/

theorem c_ninf : (Ideal.ofBits .f32 0xFF800000#32 : EReal) = ⊥ := by
  simp [Ideal.ofBits, Ideal.ieee]
theorem c_inf : (Ideal.ofBits .f32 0x7F800000#32 : EReal) = ⊤ := by
  simp [Ideal.ofBits, Ideal.ieee]
theorem c_768 : (Ideal.ofBits .f32 0x44400000#32 : EReal) = ((768 : ℝ) : EReal) := by
  simp [Ideal.ofBits, Ideal.ieee, -EReal.coe_mul]; norm_num
theorem c_10 : (Ideal.ofBits .f32 0x41200000#32 : EReal) = ((10 : ℝ) : EReal) := by
  simp [Ideal.ofBits, Ideal.ieee, -EReal.coe_mul]; norm_num
theorem c_m10 : (Ideal.ofBits .f32 0xC1200000#32 : EReal) = ((-10 : ℝ) : EReal) := by
  simp [Ideal.ofBits, Ideal.ieee, -EReal.coe_mul]; norm_num
theorem c_23 : (Ideal.ofBits .f32 0x41B80000#32 : EReal) = ((23 : ℝ) : EReal) := by
  simp [Ideal.ofBits, Ideal.ieee, -EReal.coe_mul]; norm_num
theorem c_32 : (Ideal.ofBits .f32 0x42000000#32 : EReal) = ((32 : ℝ) : EReal) := by
  simp [Ideal.ofBits, Ideal.ieee, -EReal.coe_mul]; norm_num
theorem c_half : (Ideal.ofBits .f32 0x3F000000#32 : EReal) = ((1 / 2 : ℝ) : EReal) := by
  simp [Ideal.ofBits, Ideal.ieee, -EReal.coe_mul]; norm_num
theorem c_eighth : (Ideal.ofBits .f32 0x3E000000#32 : EReal) = ((1 / 8 : ℝ) : EReal) := by
  simp [Ideal.ofBits, Ideal.ieee, -EReal.coe_mul]; norm_num
theorem c_step : (Ideal.ofBits .f32 0x39B80000#32 : EReal) = ((23 / 65536 : ℝ) : EReal) := by
  simp [Ideal.ofBits, Ideal.ieee, -EReal.coe_mul]; norm_num
theorem c_eps : ∃ r : ℝ, 0 < r ∧ (Ideal.ofBits .f32 0x3727C5AC#32 : EReal) = (r : EReal) := by
  refine ⟨10995116 / 2 ^ 40, by norm_num, ?_⟩
  simp [Ideal.ofBits, Ideal.ieee, -EReal.coe_mul]; norm_num
theorem c_tiny : ∃ r : ℝ, 0 < r ∧ (Ideal.ofBits .f32 0x2B8CBCCC#32 : EReal) = (r : EReal) := by
  refine ⟨9223372 / 2 ^ 63, by norm_num, ?_⟩
  simp [Ideal.ofBits, Ideal.ieee, -EReal.coe_mul]; norm_num

end Cert.Math

end
-- ==== Proof.Spec.lean ====
/-
  The block's mathematics on rows of extended reals: layer normalization, projections, the router's scores, the halvings
  that find a threshold among them, the attention bias, attention, and the two-layer perceptron. Both programs are read
  down to these functions.
-/
module

public import proofs.«01_k».proof.Proof.Reals

@[expose] public section

noncomputable section

namespace Cert.Spec

open Idealize.ShloMosaic

/-- The mean of a row of 768. -/
def mean (r : Fin 768 → EReal) : EReal := Ideal.div (∑ x, r x) (Ideal.ofBits .f32 0x44400000#32)

/-- Layer normalization of a row with gain `g` and shift `b`. -/
def ln (r g b : Fin 768 → EReal) (x : Fin 768) : EReal :=
  Ideal.div (r x - mean r)
    (Ideal.sqrt (Ideal.div (∑ y, (r y - mean r) * (r y - mean r)) (Ideal.ofBits .f32 0x44400000#32)
      + Ideal.ofBits .f32 0x3727C5AC#32)) * g x + b x

/-- An affine map of a row. -/
def lin {n k : Nat} (r : Fin n → EReal) (w : Fin n → Fin k → EReal) (b : Fin k → EReal) (j : Fin k) : EReal :=
  ∑ x, r x * w x j + b j

/-- A row divided by its length, or by a tiny number where that is larger. -/
def nrm (q : Fin 768 → EReal) (x : Fin 768) : EReal :=
  Ideal.div (q x) (max (Ideal.sqrt (∑ y, q y * q y)) (Ideal.ofBits .f32 0x2B8CBCCC#32))

/-- The largest of a row. -/
def top {n : Nat} (s : Fin n → EReal) : EReal := Finset.univ.fold max (Ideal.ofBits .f32 0xFF800000#32) s

/-- A softmax numerator of a row. -/
def num {n : Nat} (s : Fin n → EReal) (j : Fin n) : EReal := Ideal.exp (s j - top s)

/-- The softmax of `s` applied to `v`, divided once at the end. -/
def soft {n : Nat} (s v : Fin n → EReal) : EReal := Ideal.div (∑ j, num s j * v j) (∑ j, num s j)

/-- The softmax of `s` applied to `v`, each weight divided. -/
def softR {n : Nat} (s v : Fin n → EReal) : EReal := ∑ j, Ideal.div (num s j) (∑ k, num s k) * v j

/-- One halving: the midpoint becomes the lower end where at least 32 scores reach it, else the upper end. -/
def step {n : Nat} (s : Fin n → EReal) (p : EReal × EReal) : EReal × EReal :=
  let t := Ideal.ofBits .f32 0x3F000000#32 * (p.1 + p.2)
  if Ideal.ofBits .f32 0x42000000#32 ≤ ∑ x, (if t ≤ s x then 1 else 0) then (t, p.2) else (p.1, t)

/-- The interval that the halvings start from. -/
def start {n : Nat} (s : Fin n → EReal) : EReal × EReal := (top s - Ideal.ofBits .f32 0x41B80000#32, top s)

/-- The threshold after sixteen halvings. -/
def thr {n : Nat} (s : Fin n → EReal) : EReal := ((step s)^[16] (start s)).1

/-- The sum of the softmax numerators over the selected scores. -/
def selSum {n : Nat} (s : Fin n → EReal) : EReal := ∑ x, (if thr s ≤ s x then Ideal.exp (s x - top s) else 0)

/-- The attention bias of a selected row of scores: a clipped log-softmax, minus infinity where not selected. -/
def selBias {n : Nat} (s : Fin n → EReal) (j : Fin n) : EReal :=
  if thr s ≤ s j then max (s j - top s - Ideal.log (selSum s)) (Ideal.ofBits .f32 0xC1200000#32) else ⊥

/-- The exact GELU. -/
def gelu (u : EReal) : EReal :=
  Ideal.ofBits .f32 0x3F000000#32 * u * (1 + Ideal.erf (u * Ideal.ofBits .f32 0x3F3504F3#32))

/-- The second half of the block on one row: layer normalization, two-layer perceptron, residual sum. -/
def tail (r g b : Fin 768 → EReal) (w1 : Fin 768 → Fin 3072 → EReal) (b1 : Fin 3072 → EReal)
    (w2 : Fin 3072 → Fin 768 → EReal) (b2 : Fin 768 → EReal) (x : Fin 768) : EReal :=
  r x + lin (fun y => gelu (lin (ln r g b) w1 b1 y)) w2 b2 x

end Cert.Spec

end
-- ==== Proof.Words.lean ====
/-
  Comparisons of 32-bit words that hold small natural numbers, and selection by a truth value.
-/
module

public import Idealize.ShloMosaic.Lib.WordCmp
public import Idealize.ShloMosaic.Lib.Pointwise

@[expose] public section

noncomputable section

namespace Cert.Words

open Idealize.ShloMosaic Idealize.ShloMosaic.WordCmp

theorem slt_nat {a b : Nat} (ha : a < 2 ^ 31) (hb : b < 2 ^ 31) :
    IntOp.cmpi .slt (BitVec.ofNat 32 a) (BitVec.ofNat 32 b) = BitVec.ofBool (decide (a < b)) := by
  rw [cmpi_slt_eq, toInt_ofNat_of_lt (w := 32) ha, toInt_ofNat_of_lt (w := 32) hb]; simp
theorem sge_nat {a b : Nat} (ha : a < 2 ^ 31) (hb : b < 2 ^ 31) :
    IntOp.cmpi .sge (BitVec.ofNat 32 a) (BitVec.ofNat 32 b) = BitVec.ofBool (decide (b ≤ a)) := by
  rw [cmpi_sge_eq, toInt_ofNat_of_lt (w := 32) ha, toInt_ofNat_of_lt (w := 32) hb]; simp
theorem eq_nat {a b : Nat} (ha : a < 2 ^ 31) (hb : b < 2 ^ 31) :
    IntOp.cmpi .eq (BitVec.ofNat 32 a) (BitVec.ofNat 32 b) = BitVec.ofBool (decide (a = b)) := by
  rw [cmpi_eq_eq]; simp only [ofNat_eq_ofNat_iff (w := 32) (show a < 2 ^ 32 by omega) (show b < 2 ^ 32 by omega)]
theorem ne_nat {a b : Nat} (ha : a < 2 ^ 31) (hb : b < 2 ^ 31) :
    IntOp.cmpi .ne (BitVec.ofNat 32 a) (BitVec.ofNat 32 b) = BitVec.ofBool (decide (a ≠ b)) := by
  rw [cmpi_ne_eq]; simp only [ne_eq, ofNat_eq_ofNat_iff (w := 32) (show a < 2 ^ 32 by omega) (show b < 2 ^ 32 by omega)]
theorem sel_bool {α : Type} (b : Bool) (x y : α) : Scalar.select (BitVec.ofBool b) x y = if b = true then x else y := by
  cases b <;> rfl

/-- A small number is not negative, so the wrap of negative indices leaves it. -/
theorem wrap_nat {n k : Nat} (h : n < 2 ^ 31) :
    Scalar.select (IntOp.cmpi .slt (BitVec.ofNat 32 n) 0#32) (IntOp.addi (BitVec.ofNat 32 n) (BitVec.ofNat 32 k))
      (BitVec.ofNat 32 n) = BitVec.ofNat 32 n := by
  rw [show (0#32 : BitVec 32) = BitVec.ofNat 32 0 from rfl, slt_nat h (by omega), sel_bool]; simp

end Cert.Words

end
-- ==== Proof.KernelVal.lean ====
/-
  The idealized kernel's body at an index: what it stores from the contents of its input buffers, as the functions of
  `Spec`.
-/
module

public import proofs.«01_k».proof.Proof.Run
public import proofs.«01_k».proof.Proof.Spec
public import proofs.«01_k».proof.Proof.Words

@[expose] public section

set_option maxRecDepth 16384

noncomputable section

namespace Cert.KernelIdeal.Val

open Cert.KernelIdeal Cert.KernelIdeal.Gen Cert.KernelIdeal.Run
open Idealize.ShloMosaic Idealize.ShloMosaic.WordCmp Cert.Spec Cert.Words

/-- The normalized row `i`; the rows past the array's end are set to zero. -/
def xn (x1 : FVec Ideal S1x640x768 .f32) (g b : FVec Ideal S1x768 .f32) (i : Fin 640) (x : Fin 768) : EReal :=
  if i.val < 577 then ln (fun y => x1 (ix3 0 i y)) (fun y => g (ix2 0 y)) (fun y => b (ix2 0 y)) x else 0

/-! ## The named constants -/

/-- The kernel's two mask constants are named minus infinity, and the factor 10 is the inverse of the temperature's word. -/
theorem named30 : (Named.named (F := Ideal) Cert.KernelIdeal.κ "mask30" (φ := .f32) 0xF149F2CA#32 : EReal) = ⊥ := rfl
theorem named10 : (Named.named (F := Ideal) Cert.KernelIdeal.κ "inv_temp" (φ := .f32) 0x41200000#32 : EReal)
    = ((134217728 / 13421773 : ℝ) : EReal) := rfl
theorem named9 : (Named.named (F := Ideal) Cert.KernelIdeal.κ "mask9" (φ := .f32) 0xCE6E6B28#32 : EReal) = ⊥ := rfl

/-! ## The projections and the scores -/

theorem proj_at (x1 : FVec Ideal S1x640x768 .f32) (g b : FVec Ideal S1x768 .f32) (w : FVec Ideal S768x3840 .bf16)
    (bb : FVec Ideal S1x3840 .f32) (i : Fin 640) (j : Fin 3840) :
    k0_pay3 (F := Ideal) (k0_pay2 x1 g b w) bb (ix2 i j)
      = lin (xn x1 g b i) (fun x j => w (ix2 x j)) (fun j => bb (ix2 0 j)) j := by
  pointwise [k0_pay3, k0_pay2]
  unfold lin xn ln mean
  congr 1
  refine Finset.sum_congr rfl fun x _ => ?_
  congr 1
  rw [slt_nat (by omega) (by omega), sel_bool]
  simp only [decide_eq_true_eq]
  split <;> simp

/-- One halving on the columns of lower and upper ends. -/
def midV (lo hi : FVec Ideal S640x1 .f32) : FVec Ideal S640x1 .f32 :=
  mulf (broadcast S640x1 (Scalar.ofBits (F := Ideal) .f32 0x3F000000#32)) (addf lo hi)

def cntV (st : FVec Ideal S640x640 .f32) (t : FVec Ideal S640x1 .f32) : IVec S640x1 1 :=
  cmpf .oge (shapeCast S640x1 (multiReduction .add [1] S640
      (select (cmpf .oge st (broadcastTo S640x640 t broadcasts_S640x1_S640x640)) (broadcast S640x640 (Scalar.ofBits (F := Ideal) .f32 0x3F800000#32))
        (broadcast S640x640 (Scalar.ofBits (F := Ideal) .f32 0x00000000#32)))
      0x00000000#32 reduces_S640x640_S640 (.inl rfl) rfl) shapeCasts_S640_S640x1) (broadcast S640x1 (Scalar.ofBits (F := Ideal) .f32 0x42000000#32))

def stepV (st : FVec Ideal S640x640 .f32) (p : FVec Ideal S640x1 .f32 × FVec Ideal S640x1 .f32) :
    FVec Ideal S640x1 .f32 × FVec Ideal S640x1 .f32 :=
  (select (cntV st (midV p.1 p.2)) (midV p.1 p.2) p.1, select (cntV st (midV p.1 p.2)) p.2 (midV p.1 p.2))

theorem steps3 (st : FVec Ideal S640x640 .f32) (m0 : FVec Ideal S640x1 .f32) :
    (k0_pay20 st m0, k0_pay21 st m0) = (stepV st)^[3] (k0_pay9 m0, m0) := rfl

theorem steps6 (st : FVec Ideal S640x640 .f32) (l h : FVec Ideal S640x1 .f32) :
    (k0_pay32 st l h, k0_pay33 st l h) = (stepV st)^[3] (l, h) := rfl

theorem steps9 (st : FVec Ideal S640x640 .f32) (l h : FVec Ideal S640x1 .f32) :
    (k0_pay46 st l h (addf l h) k0_pay35, k0_pay47 st l h (addf l h) k0_pay35) = (stepV st)^[3] (l, h) := rfl

theorem steps12 (st : FVec Ideal S640x640 .f32) (l h : FVec Ideal S640x1 .f32) :
    (k0_pay59 st l h (midV l h) (cmpf .oge st (broadcastTo S640x640 (midV l h) broadcasts_S640x1_S640x640)),
      k0_pay60 st l h (midV l h) (cmpf .oge st (broadcastTo S640x640 (midV l h) broadcasts_S640x1_S640x640))) = (stepV st)^[3] (l, h) := rfl

theorem stepV_at (st : FVec Ideal S640x640 .f32) (p : FVec Ideal S640x1 .f32 × FVec Ideal S640x1 .f32) (i : Fin 640) (u : Fin 1) :
    ((stepV st p).1 (ix2 i u), (stepV st p).2 (ix2 i u)) = step (fun j => st (ix2 i j)) (p.1 (ix2 i u), p.2 (ix2 i u)) := by
  obtain rfl : u = 0 := Subsingleton.elim _ _
  unfold step
  pointwise [stepV, cntV, midV]
  split_ifs <;> rfl

theorem st_at (pr : FVec Ideal S640x3840 .f32) (bb : FVec Ideal S1x3840 .f32) (p : FVec Ideal S640x640 .f32) (i j : Fin 640) :
    k0_pay7 (F := Ideal) pr bb p (ix2 i j)
      = if (1 ≤ j.val ∧ j.val < 577) ∧ j ≠ i then
          (∑ x, nrm (fun y => k0_pay3 (F := Ideal) pr bb (ix2 i ⟨y.val, by omega⟩)) x
              * nrm (fun y => k0_pay3 (F := Ideal) pr bb (ix2 j ⟨768 + y.val, by omega⟩)) x + p (ix2 i j)) * ((134217728 / 13421773 : ℝ) : EReal)
        else ⊥ := by
  pointwise [k0_pay7]
  rw [named30, named10, slt_nat (by omega) (by omega), sge_nat (by omega) (by omega), ne_nat (by omega) (by omega), andi_ofBool,
    andi_ofBool, sel_bool]
  simp only [Bool.and_eq_true, decide_eq_true_eq, ne_eq, Fin.ext_iff]
  rfl

end Cert.KernelIdeal.Val
end
-- ==== Proof.KernelBias.lean ====
/-
  The kernel's attention bias at an index: sixteen halvings, then the clipped log-softmax of the selected scores, with
  the first row and the rows past the array's end apart.
-/
module

public import proofs.«01_k».proof.Proof.KernelVal

@[expose] public section

set_option maxRecDepth 16384

noncomputable section

namespace Cert.KernelIdeal.Val

open Cert.KernelIdeal Cert.KernelIdeal.Gen Cert.KernelIdeal.Run
open Idealize.ShloMosaic Idealize.ShloMosaic.WordCmp Cert.Spec Cert.Words

/-- The bias from a column of thresholds. -/
def biasV (st : FVec Ideal S640x640 .f32) (m0 t : FVec Ideal S640x1 .f32) : FVec Ideal S640x640 .f32 :=
  let sel := cmpf .oge st (broadcastTo S640x640 t broadcasts_S640x1_S640x640)
  let z := broadcast S640x640 (Scalar.ofBits (F := Ideal) .f32 0x00000000#32)
  let nine := broadcast S640x640 (Named.named (F := Ideal) κ "mask9" 0xCE6E6B28#32)
  let d := subf st (broadcastTo S640x640 m0 broadcasts_S640x1_S640x640)
  select (cmpi .sge rowIx (broadcast S640x640 577#32)) z
    (select (cmpi .eq rowIx (broadcast S640x640 0#32)) (select (cmpi .slt colIx (broadcast S640x640 577#32)) z nine)
      (select sel (maximumf (subf d (broadcastTo S640x640 (log (shapeCast S640x1 (multiReduction .add [1] S640
        (select sel (exp d) z) 0x00000000#32 reduces_S640x640_S640 (.inl rfl) rfl) shapeCasts_S640_S640x1)) broadcasts_S640x1_S640x640))
        (broadcast S640x640 (Scalar.ofBits (F := Ideal) .f32 0xC1200000#32))) nine))

/-- The last halving and the bias, from the interval before it. -/
theorem last_step (st : FVec Ideal S640x640 .f32) (m0 l h : FVec Ideal S640x1 .f32) :
    k0_pay76 rowIx colIx st m0 l (midV l h)
        (select (cmpf .oge st (broadcastTo S640x640 (midV l h) broadcasts_S640x1_S640x640))
          (broadcast S640x640 (Scalar.ofBits (F := Ideal) .f32 0x3F800000#32)) (broadcast S640x640 (Scalar.ofBits (F := Ideal) .f32 0x00000000#32)))
      = biasV st m0 (stepV st (l, h)).1 := rfl

section

variable (st : FVec Ideal S640x640 .f32) (l h : FVec Ideal S640x1 .f32)

/-- Three halvings and the next midpoint, as the body computes them. -/
def lo15 : FVec Ideal S640x1 .f32 := (k0_pay73 st l h (midV l h) (cmpf .oge st (broadcastTo S640x640 (midV l h) broadcasts_S640x1_S640x640))
      (Scalar.ofBits (F := Ideal) .f32 0x00000000#32) k0_pay63)
def mid15 : FVec Ideal S640x1 .f32 := (k0_pay74 st l h (midV l h) (cmpf .oge st (broadcastTo S640x640 (midV l h) broadcasts_S640x1_S640x640))
      (Scalar.ofBits (F := Ideal) .f32 0x00000000#32) k0_pay63)
def hi15 : FVec Ideal S640x1 .f32 :=
  select (k0_pay72 st l h (midV l h) (cmpf .oge st (broadcastTo S640x640 (midV l h) broadcasts_S640x1_S640x640))
      (Scalar.ofBits (F := Ideal) .f32 0x00000000#32) k0_pay63) (k0_pay70 st l h (midV l h) (cmpf .oge st (broadcastTo S640x640 (midV l h) broadcasts_S640x1_S640x640))
      (Scalar.ofBits (F := Ideal) .f32 0x00000000#32) k0_pay63) (k0_pay71 st l h (midV l h) (cmpf .oge st (broadcastTo S640x640 (midV l h) broadcasts_S640x1_S640x640))
      (Scalar.ofBits (F := Ideal) .f32 0x00000000#32) k0_pay63)
def ind15 : FVec Ideal S640x640 .f32 := (k0_pay75 st l h (midV l h) (cmpf .oge st (broadcastTo S640x640 (midV l h) broadcasts_S640x1_S640x640))
      (Scalar.ofBits (F := Ideal) .f32 0x00000000#32) k0_pay63)

theorem steps15_lo : lo15 st l h = ((stepV st)^[3] (l, h)).1 := rfl
theorem steps15_hi : hi15 st l h = ((stepV st)^[3] (l, h)).2 := rfl
theorem steps15_mid : mid15 st l h = midV (lo15 st l h) (hi15 st l h) := rfl
theorem steps15_ind : ind15 st l h
    = select (cmpf .oge st (broadcastTo S640x640 (mid15 st l h) broadcasts_S640x1_S640x640))
        (broadcast S640x640 (Scalar.ofBits (F := Ideal) .f32 0x3F800000#32))
        (broadcast S640x640 (Scalar.ofBits (F := Ideal) .f32 0x00000000#32)) := rfl

theorem last_steps (m0 : FVec Ideal S640x1 .f32) :
    k0_pay76 rowIx colIx st m0 (lo15 st l h) (mid15 st l h) (ind15 st l h) = biasV st m0 ((stepV st)^[4] (l, h)).1 := by
  rw [steps15_ind, steps15_mid, steps15_lo, steps15_hi, last_step, Function.iterate_succ_apply' _ 3]

end

theorem biasOf_eq (st : FVec Ideal S640x640 .f32) (m0 : FVec Ideal S640x1 .f32) :
    biasOf st m0 = biasV st m0 ((stepV st)^[16] (k0_pay9 m0, m0)).1 := by
  have h3 := steps3 st m0
  have h6 := steps6 st (k0_pay20 st m0) (k0_pay21 st m0)
  have h9 := steps9 st (k0_pay32 st (k0_pay20 st m0) (k0_pay21 st m0)) (k0_pay33 st (k0_pay20 st m0) (k0_pay21 st m0))
  set a := k0_pay32 st (k0_pay20 st m0) (k0_pay21 st m0) with ha
  set b := k0_pay33 st (k0_pay20 st m0) (k0_pay21 st m0) with hb
  set a1 := k0_pay46 st a b (addf a b) k0_pay35 with ha1
  set b1 := k0_pay47 st a b (addf a b) k0_pay35 with hb1
  have h12 := steps12 st a1 b1
  set a2 := k0_pay59 st a1 b1 (midV a1 b1) (cmpf .oge st (broadcastTo S640x640 (midV a1 b1) broadcasts_S640x1_S640x640)) with ha2
  set b2 := k0_pay60 st a1 b1 (midV a1 b1) (cmpf .oge st (broadcastTo S640x640 (midV a1 b1) broadcasts_S640x1_S640x640)) with hb2
  have e : (stepV st)^[16] (k0_pay9 m0, m0) = (stepV st)^[4] (a2, b2) := by
    rw [h12, h9, h6, h3, ← Function.iterate_add_apply, ← Function.iterate_add_apply, ← Function.iterate_add_apply,
      ← Function.iterate_add_apply]
  rw [e, ← last_steps st a2 b2 m0]
  rfl

theorem stepsV_at (st : FVec Ideal S640x640 .f32) (i : Fin 640) (n : Nat) (p : FVec Ideal S640x1 .f32 × FVec Ideal S640x1 .f32) :
    (((stepV st)^[n] p).1 (ix2 i 0), ((stepV st)^[n] p).2 (ix2 i 0))
      = (step (fun j => st (ix2 i j)))^[n] (p.1 (ix2 i 0), p.2 (ix2 i 0)) := by
  induction n with
  | zero => rfl
  | succ n ih => rw [Function.iterate_succ_apply', Function.iterate_succ_apply', ← ih, stepV_at]

/-- The row maxima of the scores and the lower ends that the halvings start from. -/
theorem m0_at (pr : FVec Ideal S640x3840 .f32) (bb : FVec Ideal S1x3840 .f32) (p : FVec Ideal S640x640 .f32) (i : Fin 640) :
    k0_pay8 (F := Ideal) pr bb p (ix2 i 0) = top (fun j => k0_pay7 (F := Ideal) pr bb p (ix2 i j)) := by
  unfold top
  pointwise [k0_pay8]

theorem lo_at (m0 : FVec Ideal S640x1 .f32) (i : Fin 640) :
    k0_pay9 (F := Ideal) m0 (ix2 i 0) = m0 (ix2 i 0) - Ideal.ofBits .f32 0x41B80000#32 := by
  pointwise [k0_pay9]

theorem biasV_at (st : FVec Ideal S640x640 .f32) (m0 t : FVec Ideal S640x1 .f32) (i j : Fin 640)
    (h0 : m0 (ix2 i 0) = top fun j => st (ix2 i j)) (ht : t (ix2 i 0) = thr fun j => st (ix2 i j)) :
    biasV st m0 t (ix2 i j) = if 577 ≤ i.val then 0 else if i.val = 0 then (if j.val < 577 then 0 else ⊥)
      else selBias (fun j => st (ix2 i j)) j := by
  unfold selBias selSum
  pointwise [biasV]
  rw [sge_nat (by omega) (by omega), slt_nat (by omega) (by omega), eq_nat (by omega) (by omega), sel_bool, sel_bool, sel_bool,
    h0, ht, named9]
  simp only [decide_eq_true_eq]

/-- The kernel's bias at an index. -/
theorem bias_at (pr : FVec Ideal S640x3840 .f32) (bb : FVec Ideal S1x3840 .f32) (p : FVec Ideal S640x640 .f32) (i j : Fin 640) :
    biasOf (F := Ideal) (k0_pay7 pr bb p) (k0_pay8 pr bb p) (ix2 i j)
      = if 577 ≤ i.val then 0 else if i.val = 0 then (if j.val < 577 then 0 else ⊥)
        else selBias (fun j => k0_pay7 (F := Ideal) pr bb p (ix2 i j)) j := by
  rw [biasOf_eq]
  refine biasV_at _ _ _ i j (m0_at pr bb p i) ?_
  have := congrArg Prod.fst (stepsV_at (k0_pay7 (F := Ideal) pr bb p) i 16 (k0_pay9 (k0_pay8 pr bb p), k0_pay8 pr bb p))
  unfold thr start
  simp only [lo_at, m0_at] at this
  exact this

end Cert.KernelIdeal.Val
end
-- ==== Proof.KernelHead.lean ====
/-
  The kernel's attention at an index: one head's result, the twelve heads side by side, the output projection, and the
  second half of the block.
-/
module

public import proofs.«01_k».proof.Proof.Run
public import proofs.«01_k».proof.Proof.Spec

@[expose] public section

set_option maxRecDepth 16384

noncomputable section

namespace Cert.KernelIdeal.Val

open Cert.KernelIdeal Cert.KernelIdeal.Gen Cert.KernelIdeal.Run
open Idealize.ShloMosaic Cert.Spec

/-- The softmax numerators of the head whose columns begin at `o`. -/
def headE (q k : FVec Ideal S640x768 .bf16) (bias : FVec Ideal S640x640 .f32) (o : Nat)
    (hs : S640x768.Slices ![0, o] S640x64) : FVec Ideal S640x640 .f32 :=
  let s := addf (mulf (matmul dot_S640x64_S640x64_S640x640_1_1_0_0_n_n none (extractStridedSlice S640x64 ![0, o] q hs)
    (extractStridedSlice S640x64 ![0, o] k hs) (constant S640x640 .f32 0x00000000#32)) (broadcast S640x640 (Scalar.ofBits (F := Ideal) .f32 0x3E000000#32))) bias
  exp (subf s (broadcastTo S640x640 (shapeCast S640x1 (multiReduction .maximumf [1] S640 s 0xFF800000#32
    reduces_S640x640_S640 (.inl rfl) rfl) shapeCasts_S640_S640x1) broadcasts_S640x1_S640x640))

/-- The result of the head whose columns begin at `o`, from its numerators. -/
def headO (v : FVec Ideal S640x768 .bf16) (e : FVec Ideal S640x640 .f32) (o : Nat)
    (hs : S640x768.Slices ![0, o] S640x64) : FVec Ideal S640x64 .bf16 :=
  truncf .bf16 (divf (matmul dot_S640x640_S640x64_S640x64_1_0_0_1_n_n none (truncf .bf16 e bitsLt_bf16_f32)
      (extractStridedSlice S640x64 ![0, o] v hs) (constant S640x64 .f32 0x00000000#32))
    (broadcastTo S640x64 (shapeCast S640x1 (multiReduction .add [1] S640 e 0x00000000#32 reduces_S640x640_S640 (.inl rfl) rfl)
      shapeCasts_S640_S640x1) broadcasts_S640x1_S640x64)) bitsLt_bf16_f32

/-- The attention result of row `i` in column `c`. -/
def hd (q k v : Fin 640 → Fin 768 → EReal) (bias : Fin 640 → Fin 640 → EReal) (i : Fin 640) (c : Fin 768) : EReal :=
  soft (fun j => (∑ e : Fin 64, q i ⟨64 * (c.val / 64) + e.val, by omega⟩ * k j ⟨64 * (c.val / 64) + e.val, by omega⟩)
    * Ideal.ofBits .f32 0x3E000000#32 + bias i j) (fun j => v j c)

theorem headO_at (q k v : FVec Ideal S640x768 .bf16) (bias : FVec Ideal S640x640 .f32) (h : Fin 12)
    (hs : S640x768.Slices ![0, 64 * h.val] S640x64) (i : Fin 640) (d : Fin 64) :
    headO v (headE q k bias (64 * h.val) hs) (64 * h.val) hs (ix2 i d)
      = hd (fun i x => q (ix2 i x)) (fun i x => k (ix2 i x)) (fun i x => v (ix2 i x)) (fun i j => bias (ix2 i j)) i
          ⟨64 * h.val + d.val, by omega⟩ := by
  have e1 : (64 * h.val + d.val) / 64 = h.val := by omega
  unfold hd soft num top
  simp only [e1]
  pointwise [headO, headE]

theorem attn_eq (q k v : FVec Ideal S640x768 .bf16) (st : FVec Ideal S640x640 .f32) (m0 : FVec Ideal S640x1 .f32)
    (wp : FVec Ideal S768x768 .bf16) (bp : FVec Ideal S1x768 .f32) (x : FVec Ideal S1x640x768 .f32) :
    head0Of q k st m0 = headE q k (biasOf st m0) 0 slices_S640x768_o0_0_S640x64 := rfl

/-- Twelve head results side by side. -/
def cat (o0 o1 o2 o3 o4 o5 o6 o7 o8 o9 o10 o11 : FVec Ideal S640x64 .bf16) : FVec Ideal S640x768 .bf16 :=
  concatenate S640x768 1 [⟨S640x64, o0⟩, ⟨S640x64, o1⟩, ⟨S640x64, o2⟩, ⟨S640x64, o3⟩, ⟨S640x64, o4⟩, ⟨S640x64, o5⟩,
    ⟨S640x64, o6⟩, ⟨S640x64, o7⟩, ⟨S640x64, o8⟩, ⟨S640x64, o9⟩, ⟨S640x64, o10⟩, ⟨S640x64, o11⟩]
    concatenates_S640x64_S640x64_S640x64_S640x64_S640x64_S640x64_S640x64_S640x64_S640x64_S640x64_S640x64_S640x64_S640x768_d1

theorem either {p : Prop} [Decidable p] {α : Type} {a : p → α} {b : ¬p → α} {r : α} (ha : ∀ h, a h = r) (hb : ∀ h, b h = r) :
    dite p a b = r := by
  by_cases h : p
  · rw [dif_pos h, ha]
  · rw [dif_neg h, hb]

set_option maxHeartbeats 4000000 in
theorem cat_at (o : Fin 12 → FVec Ideal S640x64 .bf16) (i : Fin 640) (c : Fin 768) (H : Fin 768 → EReal)
    (hH : ∀ (h : Fin 12) (d : Fin 64), o h (ix2 i d) = H ⟨64 * h.val + d.val, by omega⟩) :
    cat (o 0) (o 1) (o 2) (o 3) (o 4) (o 5) (o 6) (o 7) (o 8) (o 9) (o 10) (o 11) (ix2 i c) = H c := by
  pointwise [cat]
  simp only [hH]
  iterate 11
    refine either (fun _ => congrArg H (Fin.ext (by simp only [Fin.coe_ofNat_eq_mod]; omega))) fun _ => ?_
  exact congrArg H (Fin.ext (by simp only [Fin.coe_ofNat_eq_mod]; omega))

/-- The residual stream after attention, from twelve head results. -/
def midC (o0 o1 o2 o3 o4 o5 o6 o7 o8 o9 o10 o11 : FVec Ideal S640x64 .bf16) (wp : FVec Ideal S768x768 .bf16)
    (bp : FVec Ideal S1x768 .f32) (x : FVec Ideal S1x640x768 .f32) : FVec Ideal S640x768 .f32 :=
  addf (addf (matmul dot_S640x768_S768x768_S640x768_1_0_0_1_n_n none
      (cat o0 o1 o2 o3 o4 o5 o6 o7 o8 o9 o10 o11)
      (shapeCast S768x768 wp shapeCasts_S768x768_S768x768) (constant S640x768 .f32 0x00000000#32))
    (broadcastTo S640x768 (shapeCast S1x768 bp shapeCasts_S1x768_S1x768) broadcasts_S1x768_S640x768))
    (shapeCast S640x768 x shapeCasts_S1x640x768_S640x768)

theorem midC_at (o : Fin 12 → FVec Ideal S640x64 .bf16) (wp : FVec Ideal S768x768 .bf16)
    (bp : FVec Ideal S1x768 .f32) (x : FVec Ideal S1x640x768 .f32) (i : Fin 640) (j : Fin 768) (H : Fin 768 → EReal)
    (hH : ∀ (h : Fin 12) (d : Fin 64), o h (ix2 i d) = H ⟨64 * h.val + d.val, by omega⟩) :
    midC (o 0) (o 1) (o 2) (o 3) (o 4) (o 5) (o 6) (o 7) (o 8) (o 9) (o 10) (o 11) wp bp x (ix2 i j)
      = lin H (fun y j => wp (ix2 y j)) (fun j => bp (ix2 0 j)) j + x (ix3 0 i j) := by
  unfold lin
  pointwise [midC]
  congr 2
  refine Finset.sum_congr rfl fun c _ => ?_
  rw [cat_at o i c H hH]

theorem attnOf_eq (q k v : FVec Ideal S640x768 .bf16) (b : FVec Ideal S640x640 .f32)
    (wp : FVec Ideal S768x768 .bf16) (bp : FVec Ideal S1x768 .f32) (x : FVec Ideal S1x640x768 .f32)
    (hs : ∀ h : Fin 12, S640x768.Slices ![0, 64 * h.val] S640x64) :
    attnOf q k v b (headE q k b 0 slices_S640x768_o0_0_S640x64) wp bp x
      = (fun o : Fin 12 → FVec Ideal S640x64 .bf16 => midC (o 0) (o 1) (o 2) (o 3) (o 4) (o 5) (o 6) (o 7) (o 8) (o 9) (o 10) (o 11) wp bp x)
          (fun h => headO v (headE q k b (64 * h.val) (hs h)) (64 * h.val) (hs h)) := rfl

theorem tail_at (m : FVec Ideal S640x768 .f32) (g b : FVec Ideal S1x768 .f32) (w1 : FVec Ideal S768x3072 .bf16)
    (b1 : FVec Ideal S1x3072 .f32) (w2 : FVec Ideal S3072x768 .bf16) (b2 : FVec Ideal S1x768 .f32) (i : Fin 640) (j : Fin 768) :
    k0_pay1 (F := Ideal) (k0_pay96 m (k0_pay95 g) b w1 b1 w2) b2 (ix3 0 i j)
      = tail (fun x => m (ix2 i x)) (fun x => g (ix2 0 x)) (fun x => b (ix2 0 x)) (fun x y => w1 (ix2 x y)) (fun y => b1 (ix2 0 y))
          (fun x y => w2 (ix2 x y)) (fun y => b2 (ix2 0 y)) j := by
  unfold tail gelu lin ln mean
  pointwise [k0_pay1, k0_pay96, k0_pay95]
  rw [add_assoc]
  rfl

end Cert.KernelIdeal.Val
end
-- ==== Proof.RefVal.lean ====
/-
  The reference program at an index, as the functions of `Spec`: layer normalization, the router's scores, the
  projections of the attention.
-/
module

public import proofs.«01_k».proof.Proof.Gen.ReferenceIdeal.Run
public import proofs.«01_k».proof.Proof.Spec
public import proofs.«01_k».proof.Proof.Words
public import Idealize.ShloMosaic.Lib.Pointwise
public import Idealize.ShloMosaic.Lib.Tactic.CleanTypes

@[expose] public section

set_option maxRecDepth 16384

noncomputable section

namespace Cert.ReferenceIdeal.Val

open Cert.ReferenceIdeal Cert.ReferenceIdeal.Gen Cert.ReferenceIdeal.Value
open Idealize.ShloMosaic Cert.Spec Cert.Words

variable (V : Valuation τ sig (Elt Ideal))

/-- The arguments by name, as arrays of extended reals. -/
abbrev A0 : FVec Ideal S4x577x768 .f32 := V (Proc.devRef .tc main_arg0)
abbrev A1 : FVec Ideal S768x768 .f32 := V (Proc.devRef .tc main_arg1)
abbrev A2 : FVec Ideal S768 .f32 := V (Proc.devRef .tc main_arg2)
abbrev A3 : FVec Ideal S768x768 .f32 := V (Proc.devRef .tc main_arg3)
abbrev A4 : FVec Ideal S768 .f32 := V (Proc.devRef .tc main_arg4)
abbrev A5 : FVec Ideal S576x576 .f32 := V (Proc.devRef .tc main_arg5)
abbrev A6 : FVec Ideal S768x2304 .f32 := V (Proc.devRef .tc main_arg6)
abbrev A7 : FVec Ideal S2304 .f32 := V (Proc.devRef .tc main_arg7)
abbrev A8 : FVec Ideal S768x768 .f32 := V (Proc.devRef .tc main_arg8)
abbrev A9 : FVec Ideal S768 .f32 := V (Proc.devRef .tc main_arg9)
abbrev A10 : FVec Ideal S768 .f32 := V (Proc.devRef .tc main_arg10)
abbrev A11 : FVec Ideal S768 .f32 := V (Proc.devRef .tc main_arg11)
abbrev A12 : FVec Ideal S768 .f32 := V (Proc.devRef .tc main_arg12)
abbrev A13 : FVec Ideal S768 .f32 := V (Proc.devRef .tc main_arg13)
abbrev A14 : FVec Ideal S768x3072 .f32 := V (Proc.devRef .tc main_arg14)
abbrev A15 : FVec Ideal S3072 .f32 := V (Proc.devRef .tc main_arg15)
abbrev A16 : FVec Ideal S3072x768 .f32 := V (Proc.devRef .tc main_arg16)
abbrev A17 : FVec Ideal S768 .f32 := V (Proc.devRef .tc main_arg17)

/-- The normalized row `i` of batch `b`. -/
def xnR (b : Fin 4) (i : Fin 577) (x : Fin 768) : EReal :=
  ln (fun y => A0 V (ix3 b i y)) (fun y => A10 V (ix1 y)) (fun y => A11 V (ix1 y)) x

theorem v23_at (b : Fin 4) (i : Fin 577) (x : Fin 768) : res_main_v23 V (ix3 b i x) = xnR V b i x := by
  unfold xnR ln mean res_main_v23
  clean_types
  pointwise [res_main_v3, res_main_v5]

theorem v28_at (b : Fin 4) (p : Fin 576) (j : Fin 768) : res_main_v28 V (ix3 b p j)
    = lin (xnR V b ⟨1 + p.val, by omega⟩) (fun x j => A1 V (ix2 x j)) (fun j => A2 V (ix1 j)) j := by
  unfold lin res_main_v28
  simp only [← v23_at]
  clean_types
  pointwise [res_main_v24]

theorem v37_at (b : Fin 4) (p : Fin 576) (j : Fin 768) : res_main_v37 V (ix3 b p j)
    = lin (xnR V b ⟨1 + p.val, by omega⟩) (fun x j => A3 V (ix2 x j)) (fun j => A4 V (ix1 j)) j := by
  unfold lin res_main_v37
  simp only [← v23_at]
  clean_types
  pointwise [res_main_v24]

theorem v55_at (b : Fin 4) (p q : Fin 576) : res_main_v55 V (ix3 b p q)
    = Ideal.div (if p = q then Ideal.ofBits .f32 0xCE6E6B28#32 else (∑ x, nrm (fun y => res_main_v28 V (ix3 b p y)) x * nrm (fun y => res_main_v37 V (ix3 b q y)) x)
        + A5 V (ix2 p q)) (Ideal.ofBits .f32 0x3DCCCCCD#32) := by
  unfold nrm res_main_v55
  clean_types
  pointwise
  rw [show IntOp.addi (BitVec.ofNat 32 p.val) 0#32 = BitVec.ofNat 32 p.val from BitVec.add_zero _,
    eq_nat (by omega) (by omega), sel_bool]
  simp only [decide_eq_true_eq, Fin.ext_iff]
  rfl

/-- Row `i` of the joint projection to queries, keys and values. -/
def pqkv (b : Fin 4) (i : Fin 577) (j : Fin 2304) : EReal :=
  lin (xnR V b i) (fun x j => A6 V (ix2 x j)) (fun j => A7 V (ix1 j)) j

theorem v74_at (b : Fin 4) (h : Fin 12) (i : Fin 577) (d : Fin 64) :
    res_main_v74 V (ix4 b h i d) = pqkv V b i ⟨h.val * 64 + d.val, by omega⟩ := by
  unfold pqkv lin res_main_v74
  simp only [← v23_at]
  clean_types
  pointwise [res_main_v72]

theorem v76_at (b : Fin 4) (h : Fin 12) (i : Fin 577) (d : Fin 64) :
    res_main_v76 V (ix4 b h i d) = pqkv V b i ⟨768 + h.val * 64 + d.val, by omega⟩ := by
  unfold pqkv lin res_main_v76
  simp only [← v23_at]
  clean_types
  pointwise [res_main_v72]

theorem v78_at (b : Fin 4) (h : Fin 12) (i : Fin 577) (d : Fin 64) :
    res_main_v78 V (ix4 b h i d) = pqkv V b i ⟨1536 + h.val * 64 + d.val, by omega⟩ := by
  unfold pqkv lin res_main_v78
  simp only [← v23_at]
  clean_types
  pointwise [res_main_v72]

end Cert.ReferenceIdeal.Val
end
-- ==== Proof.Soft.lean ====
/-
  Softmax over a row with some entries at minus infinity: it is the softmax over the other entries alone.
-/
module

public import proofs.«01_k».proof.Proof.Spec

@[expose] public section

noncomputable section

namespace Cert.Spec

open Idealize.ShloMosaic Cert.Math

theorem le_top {n : Nat} (s : Fin n → EReal) (j : Fin n) : s j ≤ top s := by
  unfold top
  exact (Finset.le_fold_max _).2 (Or.inr ⟨j, Finset.mem_univ _, le_rfl⟩)

/-- The largest entry is the one that no other exceeds. -/
theorem top_eq {n : Nat} {s : Fin n → EReal} (j : Fin n) (h : ∀ k, s k ≤ s j) : top s = s j := by
  refine le_antisymm ?_ (le_top s j)
  unfold top
  exact (Finset.fold_max_le _).2 ⟨by rw [c_ninf]; exact bot_le, fun k _ => h k⟩

/-- Among finitely many reals one is the largest. -/
theorem top_real {n : Nat} (hn : 0 < n) (σ : Fin n → ℝ) :
    ∃ k, (∀ l, σ l ≤ σ k) ∧ top (fun k => (σ k : EReal)) = ((σ k : ℝ) : EReal) := by
  haveI : Nonempty (Fin n) := ⟨⟨0, hn⟩⟩
  obtain ⟨k, hk⟩ := Finite.exists_max σ
  exact ⟨k, hk, top_eq (s := fun k => (σ k : EReal)) k fun l => EReal.coe_le_coe_iff.2 (hk l)⟩

/-- The numerators of a row of reals. -/
theorem num_real {n : Nat} {σ : Fin n → ℝ} {M : ℝ} (h : top (fun k => (σ k : EReal)) = (M : EReal)) (k : Fin n) :
    num (fun k => (σ k : EReal)) k = ((Real.exp (σ k - M) : ℝ) : EReal) := by
  unfold num
  rw [h, ← EReal.coe_sub, exp_coe]

/-- The sum of the numerators of a row of reals is a positive real. -/
theorem den_real {n : Nat} (hn : 0 < n) {σ : Fin n → ℝ} {M : ℝ} (h : top (fun k => (σ k : EReal)) = (M : EReal)) :
    ∑ k, num (fun k => (σ k : EReal)) k = ((∑ k, Real.exp (σ k - M) : ℝ) : EReal) ∧ 0 < ∑ k, Real.exp (σ k - M) := by
  constructor
  · rw [coe_sum]; exact Finset.sum_congr rfl fun k _ => num_real h k
  · exact Finset.sum_pos (fun k _ => Real.exp_pos _) ⟨⟨0, hn⟩, Finset.mem_univ _⟩

/-- Masked attention over the long row is attention over the entries that are left, which the injection `e` lists. -/
theorem soft_masked {n m : Nat} (hn : 0 < n) {s v : Fin m → EReal} {s' v' : Fin n → EReal} {e : Fin n → Fin m}
    (he : Function.Injective e) (hs : ∀ k, s (e k) = s' k) (hv : ∀ k, v (e k) = v' k) (hoff : ∀ j, j ∉ Set.range e → s j = ⊥)
    (rs : ∀ k, IsR (s' k)) (rv : ∀ k, IsR (v' k)) : soft s v = softR s' v' := by
  choose σ hσ using rs
  choose w hw using rv
  obtain rfl : s' = fun k => (σ k : EReal) := funext hσ
  obtain rfl : v' = fun k => (w k : EReal) := funext hw
  replace hs : ∀ k, s (e k) = (σ k : EReal) := hs
  replace hv : ∀ k, v (e k) = (w k : EReal) := hv
  obtain ⟨k0, hk0, ht⟩ := top_real hn σ
  have hts : top s = ((σ k0 : ℝ) : EReal) := by
    rw [← hs k0]
    refine top_eq (e k0) fun j => ?_
    by_cases hj : j ∈ Set.range e
    · obtain ⟨k, rfl⟩ := hj
      rw [hs, hs]; exact EReal.coe_le_coe_iff.2 (hk0 k)
    · rw [hoff j hj]; exact bot_le
  have hnum : ∀ k, num s (e k) = num (fun k => (σ k : EReal)) k := fun k => by
    unfold num; rw [hts, ht, hs]
  have hnum0 : ∀ j, j ∉ Set.range e → num s j = 0 := fun j hj => by
    unfold num; rw [hoff j hj, EReal.bot_sub, exp_bot]
  obtain ⟨hden, hpos⟩ := den_real hn ht
  unfold soft softR
  rw [← Fintype.sum_of_injective e he (fun k => num (fun k => (σ k : EReal)) k * (w k : EReal)) (fun j => num s j * v j)
      (fun j hj => by show num s j * v j = 0; rw [hnum0 j hj, zero_mul]) (fun k => by show _ = num s (e k) * v (e k); rw [hnum, hv]),
    ← Fintype.sum_of_injective e he (fun k => num (fun k => (σ k : EReal)) k) (fun j => num s j) hnum0 (fun k => (hnum k).symm),
    hden]
  simp only [num_real ht, ← EReal.coe_mul]
  rw [← coe_sum, div_coe_coe hpos.ne']
  simp only [div_coe_coe hpos.ne', ← EReal.coe_mul]
  rw [← coe_sum, Finset.sum_div]
  congr 1
  exact Finset.sum_congr rfl fun k _ => by ring

end Cert.Spec

end
-- ==== Proof.Bisect.lean ====
/-
  The threshold that sixteen halvings find: if the 32 largest scores are separated from the others, the scores that reach
  the threshold are those 32, and the attention bias is their clipped log-softmax.
-/
module

public import proofs.«01_k».proof.Proof.Soft

@[expose] public section

noncomputable section

namespace Cert.Spec

open Idealize.ShloMosaic Cert.Math

/-- A row of scores `st` whose 32 largest, the reals `σ` at the positions `e`, are separated from the others by the width
of the last interval and lie in the first one. -/
structure Sep {m : Nat} (st : Fin m → EReal) (e : Fin 32 → Fin m) (σ : Fin 32 → ℝ) : Prop where
  inj : Function.Injective e
  val : ∀ k, st (e k) = (σ k : EReal)
  least : ∀ k, σ 31 ≤ σ k
  greatest : ∀ k, σ k ≤ σ 0
  off : ∀ j, j ∉ Set.range e → st j < ((σ 31 - 23 / 65536 : ℝ) : EReal)
  gap : σ 0 - σ 31 < 23

variable {m : Nat} {st : Fin m → EReal} {e : Fin 32 → Fin m} {σ : Fin 32 → ℝ}

theorem Sep.top (h : Sep st e σ) : top st = ((σ 0 : ℝ) : EReal) := by
  rw [← h.val 0]
  refine top_eq (e 0) fun j => ?_
  rw [h.val 0]
  by_cases hj : j ∈ Set.range e
  · obtain ⟨k, rfl⟩ := hj
    rw [h.val]; exact EReal.coe_le_coe_iff.2 (h.greatest k)
  · refine (h.off j hj).le.trans (EReal.coe_le_coe_iff.2 ?_)
    have := h.greatest 31
    linarith

/-- At least 32 scores reach `t` just when `t` is at most the 32nd largest. -/
theorem Sep.count (h : Sep st e σ) (t : ℝ) :
    Ideal.ofBits .f32 0x42000000#32 ≤ (∑ x, (if (t : EReal) ≤ st x then 1 else 0) : EReal) ↔ t ≤ σ 31 := by
  classical
  have cast : ∀ n : Nat, ((32 : ℝ) : EReal) ≤ (n : EReal) ↔ 32 ≤ n := fun n => by
    rw [← EReal.coe_natCast, EReal.coe_le_coe_iff]
    exact_mod_cast Iff.rfl
  rw [c_32, Finset.sum_boole, cast]
  constructor
  · intro hc
    by_contra ht
    have ht : σ 31 < t := not_le.1 ht
    have hsub : Finset.univ.filter (fun x => (t : EReal) ≤ st x) ⊆ (Finset.univ.erase (31 : Fin 32)).image e := by
      intro x hx
      have hx : (t : EReal) ≤ st x := (Finset.mem_filter.1 hx).2
      have hr : x ∈ Set.range e := by
        by_contra hr
        have := hx.trans (h.off x hr).le
        rw [EReal.coe_le_coe_iff] at this
        linarith
      obtain ⟨k, rfl⟩ := hr
      refine Finset.mem_image.2 ⟨k, Finset.mem_erase.2 ⟨?_, Finset.mem_univ _⟩, rfl⟩
      rintro rfl
      rw [h.val, EReal.coe_le_coe_iff] at hx
      linarith
    have := (Finset.card_le_card hsub).trans Finset.card_image_le
    rw [Finset.card_erase_of_mem (Finset.mem_univ _)] at this
    simp at this
    omega
  · intro ht
    have hsub : Finset.univ.image e ⊆ Finset.univ.filter (fun x => (t : EReal) ≤ st x) := by
      intro x hx
      obtain ⟨k, -, rfl⟩ := Finset.mem_image.1 hx
      refine Finset.mem_filter.2 ⟨Finset.mem_univ _, ?_⟩
      rw [h.val, EReal.coe_le_coe_iff]
      exact ht.trans (h.least k)
    have := Finset.card_le_card hsub
    rw [Finset.card_image_of_injective _ h.inj] at this
    simpa using this

/-- After `n` halvings the interval still holds the 32nd largest score. -/
theorem Sep.interval (h : Sep st e σ) (n : Nat) :
    ∃ lo hi : ℝ, (step st)^[n] (start st) = ((lo : EReal), (hi : EReal)) ∧ lo ≤ σ 31 ∧ σ 31 ≤ hi ∧ hi - lo = 23 / 2 ^ n := by
  induction n with
  | zero =>
    refine ⟨σ 0 - 23, σ 0, ?_, ?_, h.least 0, by ring⟩
    · show start st = _
      unfold start
      rw [h.top, c_23, ← EReal.coe_sub]
    · have := h.gap
      linarith
  | succ n ih =>
    obtain ⟨lo, hi, hp, hlo, hhi, hd⟩ := ih
    rw [Function.iterate_succ_apply', hp]
    unfold step
    have ht : Ideal.ofBits .f32 0x3F000000#32 * ((lo : EReal) + (hi : EReal)) = ((1 / 2 * (lo + hi) : ℝ) : EReal) := by
      rw [c_half, ← EReal.coe_add, ← EReal.coe_mul]
    simp only [ht, h.count]
    split
    · exact ⟨_, hi, rfl, by assumption, hhi, by rw [pow_succ]; field_simp at hd ⊢; linarith⟩
    · rename_i hn
      exact ⟨lo, _, rfl, hlo, (not_le.1 hn).le, by rw [pow_succ]; field_simp at hd ⊢; linarith⟩

/-- The scores that reach the threshold are the 32 largest. -/
theorem Sep.selected (h : Sep st e σ) (j : Fin m) : thr st ≤ st j ↔ j ∈ Set.range e := by
  obtain ⟨lo, hi, hp, hlo, hhi, hd⟩ := h.interval 16
  unfold thr
  rw [hp]
  constructor
  · intro hj
    by_contra hr
    have := hj.trans (h.off j hr).le
    rw [EReal.coe_le_coe_iff] at this
    have := h.off j hr
    have h3 := lt_of_le_of_lt hj this
    rw [EReal.coe_lt_coe_iff] at h3
    norm_num at hd
    linarith
  · rintro ⟨k, rfl⟩
    rw [h.val]
    exact EReal.coe_le_coe_iff.2 (hlo.trans (h.least k))

/-- The clipped log-softmax of a row, each weight divided. -/
def logw {n : Nat} (s : Fin n → EReal) (k : Fin n) : EReal :=
  max (Ideal.log (Ideal.div (num s k) (∑ l, num s l))) (Ideal.ofBits .f32 0xC1200000#32)

/-- The clipped log-softmax of reals is real. -/
theorem logw_real {n : Nat} (hn : 0 < n) {σ : Fin n → ℝ} {M : ℝ} (h : Spec.top (fun k => (σ k : EReal)) = (M : EReal)) (k : Fin n) :
    logw (fun k => (σ k : EReal)) k
      = max (((σ k - M - Real.log (∑ l, Real.exp (σ l - M)) : ℝ)) : EReal) (Ideal.ofBits .f32 0xC1200000#32) := by
  obtain ⟨hden, hpos⟩ := den_real hn h
  unfold logw
  rw [hden, num_real h, div_coe_coe hpos.ne', log_coe (div_pos (Real.exp_pos _) hpos),
    Real.log_div (Real.exp_pos _).ne' hpos.ne', Real.log_exp]

/-- The attention bias: the clipped log-softmax of the 32 largest scores, minus infinity elsewhere. -/
theorem Sep.bias (h : Sep st e σ) (k : Fin 32) : selBias st (e k) = logw (fun k => (σ k : EReal)) k := by
  have hsel : selSum st = ((∑ l, Real.exp (σ l - σ 0) : ℝ) : EReal) := by
    unfold selSum
    rw [coe_sum, ← Fintype.sum_of_injective e h.inj (fun l => ((Real.exp (σ l - σ 0) : ℝ) : EReal))
      (fun x => if thr st ≤ st x then Ideal.exp (st x - Spec.top st) else 0)
      (fun j hj => if_neg fun hc => hj ((h.selected j).1 hc))
      (fun l => by
        show _ = if thr st ≤ st (e l) then Ideal.exp (st (e l) - Spec.top st) else 0
        rw [if_pos ((h.selected _).2 ⟨l, rfl⟩), h.top, h.val, ← EReal.coe_sub, exp_coe])]
  have hpos : 0 < ∑ l, Real.exp (σ l - σ 0) :=
    Finset.sum_pos (fun k _ => Real.exp_pos _) ⟨0, Finset.mem_univ _⟩
  unfold selBias
  rw [if_pos ((h.selected _).2 ⟨k, rfl⟩), hsel, log_coe hpos, h.top, h.val, ← EReal.coe_sub, ← EReal.coe_sub,
    logw_real (by omega) (top_eq (s := fun k => (σ k : EReal)) 0 fun l => EReal.coe_le_coe_iff.2 (h.greatest l))]

theorem Sep.bias_off (h : Sep st e σ) (j : Fin m) (hj : j ∉ Set.range e) : selBias st j = ⊥ :=
  if_neg fun hc => hj ((h.selected j).1 hc)

theorem logw_isR {n : Nat} (hn : 0 < n) (σ : Fin n → ℝ) (k : Fin n) : IsR (logw (fun k => (σ k : EReal)) k) := by
  obtain ⟨k0, -, ht⟩ := top_real hn σ
  rw [logw_real hn ht, c_m10]
  exact IsR.max (IsR.coe _) (IsR.coe _)

/-- The selection finds the entries `e`: there the bias is the clipped log-softmax, a real, of the scores `s`, and elsewhere
it is minus infinity. -/
structure Routed {m : Nat} (st : Fin m → EReal) (e : Fin 32 → Fin m) (s : Fin 32 → EReal) : Prop where
  inj : Function.Injective e
  bias : ∀ k, selBias st (e k) = logw s k
  off : ∀ j, j ∉ Set.range e → selBias st j = ⊥
  real : ∀ k, IsR (logw s k)

theorem Sep.routed (h : Sep st e σ) : Routed st e (fun k => (σ k : EReal)) :=
  ⟨h.inj, h.bias, h.bias_off, logw_isR (by omega) σ⟩

/-- Halving leaves an interval alone whose ends are both infinite. -/
theorem start_top (h : Spec.top st = ⊤) (n : Nat) : (step st)^[n] (start st) = (⊤, ⊤) := by
  induction n with
  | zero =>
    show start st = _
    unfold start
    rw [h, c_23, EReal.top_sub_coe]
  | succ n ih =>
    rw [Function.iterate_succ_apply', ih]
    unfold step
    have ht : Ideal.ofBits .f32 0x3F000000#32 * ((⊤ : EReal) + ⊤) = ⊤ := by
      rw [c_half, EReal.top_add_top, EReal.coe_mul_top_of_pos (by norm_num)]
    simp only [ht, ite_self]

/-- The selection finds 32 infinite scores, if there are no more. -/
theorem routed_top (inj : Function.Injective e) (val : ∀ k, st (e k) = ⊤) (off : ∀ j, j ∉ Set.range e → st j < ⊤) :
    Routed st e (fun _ => ⊤) := by
  have htop : ∀ {n : Nat} {s : Fin n → EReal} (k : Fin n), s k = ⊤ → Spec.top s = ⊤ := fun k hk =>
    (top_eq k fun _ => by rw [hk]; exact _root_.le_top).trans hk
  have hthr : thr st = ⊤ := by unfold thr; rw [start_top (htop (e 0) (val 0))]
  have hl : ∀ k : Fin 32, logw (fun _ => ⊤) k = Ideal.ofBits .f32 0xC1200000#32 := fun k => by
    have hn : ∀ l : Fin 32, num (fun _ => ⊤) l = 0 := fun l => by
      unfold num
      rw [htop l rfl, EReal.sub_top, exp_bot]
    unfold logw
    simp only [hn, Finset.sum_const_zero]
    have hd : Ideal.div 0 0 = ⊥ := by simp [Ideal.div]
    rw [hd]
    exact max_eq_right bot_le
  refine ⟨inj, fun k => ?_, fun j hj => if_neg fun hc => ?_, fun k => ?_⟩
  · unfold selBias
    rw [hl, hthr, val, if_pos le_rfl, htop (e 0) (val 0), EReal.sub_top, EReal.bot_sub]
    exact max_eq_right bot_le
  · rw [hthr] at hc
    exact absurd (off j hj) (not_lt.2 hc)
  · rw [hl, c_m10]
    exact IsR.coe _

end Cert.Spec

end
-- ==== Proof.TopK.lean ====
/-
  The largest entries of a row of extended reals by the stable sort, and the operations that read them: the selection
  of the K largest and the gather of rows at the selected positions.
-/
module

public import proofs.«01_k».proof.Proof.Words
public import Idealize.ShloMosaic.Lib.SortFacts

@[expose] public section

noncomputable section

namespace Cert.TopK

open Idealize.ShloMosaic

/-- The position of the `k`-th largest entry of a row (the first of equal ones first). -/
def pos {n : Nat} (s : Fin n → EReal) : Fin n → Fin n :=
  sortedFrom fun k k' => FloatOps.cmpfTotal (F := Ideal) (φ := .f32) .gt (s k) (s k') == 1#1

theorem before_iff (a b : EReal) : (FloatOps.cmpfTotal (F := Ideal) (φ := .f32) .gt a b == 1#1) = decide (b < a) := by
  rw [Ideal.cmpfTotal_def]
  show (BitVec.ofBool (decide (b < a)) == 1#1) = decide (b < a)
  by_cases h : b < a <;> simp [h]

theorem pos_injective {n : Nat} (s : Fin n → EReal) : Function.Injective (pos s) := sortedFrom_injective _

theorem pos_surjective {n : Nat} (s : Fin n → EReal) : Function.Surjective (pos s) := sortedFrom_surjective _

/-- The entries decrease along the sorted positions. -/
theorem pos_anti {n : Nat} (s : Fin n → EReal) {i j : Fin n} (h : i ≤ j) : s (pos s j) ≤ s (pos s i) := by
  rcases h.lt_or_eq with h | rfl
  · have := sortedFrom_noInversion (fun k k' => decide (s k' < s k))
      (fun k k' => FloatOps.cmpfTotal (F := Ideal) (φ := .f32) .gt (s k) (s k') == 1#1) (fun a b hab => by
        rw [before_iff] at hab; simp at hab ⊢; exact hab.le) (fun a b hab => by rw [before_iff]; exact hab)
      (fun a b c hab hbc => by simp at hab hbc ⊢; exact hab.trans hbc) i j h
    simpa [pos] using this
  · exact le_rfl

/-- The first `K` of each row. -/
theorem slice_at {α : Type} {A N M : Nat} (K : Nat) (hK : K ≤ M) (f : (⟨3, ![A, N, M]⟩ : Shape).Idx → α)
    (h : (⟨3, ![A, N, M]⟩ : Shape).Slices (fun _ => 0) ⟨3, ![A, N, K]⟩) (b : Fin A) (i : Fin N) (k : Fin K) :
    extractStridedSlice ⟨3, ![A, N, K]⟩ (fun _ => 0) f h (ix3 b i k) = f (ix3 b i ⟨k.val, by omega⟩) := by
  unfold extractStridedSlice
  congr 1
  funext a
  match a with
  | ⟨0, _⟩ => exact Fin.ext (Nat.zero_add _)
  | ⟨1, _⟩ => exact Fin.ext (Nat.zero_add _)
  | ⟨2, _⟩ => exact Fin.ext (Nat.zero_add _)

/-- A coordinate of the last axis put into an index. -/
theorem along_at {A N M : Nat} (b : Fin A) (i : Fin N) (k : Fin M) (h : 2 < (⟨3, ![A, N, M]⟩ : Shape).rank) (q : Fin M) :
    Shape.Idx.along (s := ⟨3, ![A, N, M]⟩) (ix3 b i k) ⟨2, h⟩ q = ix3 b i q := by
  funext a
  match a with
  | ⟨0, _⟩ => rfl
  | ⟨1, _⟩ => rfl
  | ⟨2, _⟩ => rfl

/-- The `K` largest entries of each row, and their positions. -/
theorem topK_at {A N M : Nat} (K : Nat) (hK : K ≤ M) (x : FVec Ideal ⟨3, ![A, N, M]⟩ .f32)
    (h : (⟨3, ![A, N, M]⟩ : Shape).Slices (fun _ => 0) ⟨3, ![A, N, K]⟩) (b : Fin A) (i : Fin N) (k : Fin K) :
    (Host.topK ⟨3, ![A, N, K]⟩ 2 (FloatOps.cmpfTotal .gt) x h).1 (ix3 b i k)
        = x (ix3 b i (pos (fun q => x (ix3 b i q)) ⟨k.val, by omega⟩))
    ∧ (Host.topK ⟨3, ![A, N, K]⟩ 2 (FloatOps.cmpfTotal .gt) x h).2 (ix3 b i k)
        = BitVec.ofNat 32 (pos (fun q => x (ix3 b i q)) ⟨k.val, by omega⟩).val := by
  unfold Host.topK
  dsimp only
  rw [slice_at K hK, slice_at K hK]
  unfold Host.sort2
  rw [dif_pos (show 2 < 3 by decide)]
  dsimp only
  have h2 : 2 < (⟨3, ![A, N, M]⟩ : Shape).rank := show 2 < 3 by decide
  have e : (fun q : Fin M => x (Shape.Idx.along (s := ⟨3, ![A, N, M]⟩) (ix3 b i ⟨k.val, by omega⟩) ⟨2, h2⟩ q))
      = fun q => x (ix3 b i q) := funext fun q => congrArg x (along_at b i _ _ q)
  constructor
  · refine (congrArg x (along_at b i _ h2 _)).trans ?_
    show x (ix3 b i (pos (fun q : Fin M => x (Shape.Idx.along (s := ⟨3, ![A, N, M]⟩) (ix3 b i ⟨k.val, by omega⟩) ⟨2, h2⟩ q))
      ⟨k.val, by omega⟩)) = _
    rw [e]
  · show BitVec.ofNat 32 (pos (fun q : Fin M => x (Shape.Idx.along (s := ⟨3, ![A, N, M]⟩) (ix3 b i ⟨k.val, by omega⟩) ⟨2, h2⟩ q))
      ⟨k.val, by omega⟩).val = _
    rw [e]

/-- A row of the operand gathered at three indices: batch, head and position. -/
theorem gather_at
    (wf : GatherDims.WF ⟨4, ![4, 12, 576, 64]⟩ ⟨5, ![4, 12, 576, 32, 3]⟩ ⟨5, ![4, 12, 576, 32, 64]⟩ [4] [0, 1, 2] [] [0, 1, 2] []
      4 ![1, 1, 1, 64])
    (x : FVec Ideal ⟨4, ![4, 12, 576, 64]⟩ .f32) (idx : IVec ⟨5, ![4, 12, 576, 32, 3]⟩ 32)
    (b : Fin 4) (h : Fin 12) (i : Fin 576) (k : Fin 32) (d : Fin 64) (b' : Fin 4) (h' : Fin 12) (q : Fin 576)
    (e0 : idx (ix5 b h i k 0) = BitVec.ofNat 32 b'.val) (e1 : idx (ix5 b h i k 1) = BitVec.ofNat 32 h'.val)
    (e2 : idx (ix5 b h i k 2) = BitVec.ofNat 32 q.val) :
    Host.gather (⟨[4], [0, 1, 2], [], [], [0, 1, 2], 4, ![1, 1, 1, 64], wf⟩ :
      GatherDims ⟨4, ![4, 12, 576, 64]⟩ ⟨5, ![4, 12, 576, 32, 3]⟩ ⟨5, ![4, 12, 576, 32, 64]⟩) x idx (ix5 b h i k d)
      = x (ix4 b' h' q d) := by
  generalize hD : (⟨[4], [0, 1, 2], [], [], [0, 1, 2], 4, ![1, 1, 1, 64], wf⟩ :
    GatherDims ⟨4, ![4, 12, 576, 64]⟩ ⟨5, ![4, 12, 576, 32, 3]⟩ ⟨5, ![4, 12, 576, 32, 64]⟩) = D
  have si : ∀ c : Fin 3, D.siIdx (ix5 b h i k d) (c.cast (by rw [← hD]; rfl)) = ix5 b h i k c := by
    subst hD; intro c; funext z; refine Fin.ext ?_
    match z with
    | ⟨0, _⟩ => rfl
    | ⟨1, _⟩ => rfl
    | ⟨2, _⟩ => rfl
    | ⟨3, _⟩ => rfl
    | ⟨4, _⟩ => rfl
  have word : ∀ (n m : Nat) (_ : n < m) (_ : m ≤ 576) (w : BitVec 32), w = BitVec.ofNat 32 n → min w.toInt.toNat (m - 1) = n := by
    rintro n m hn hm _ rfl
    rw [WordCmp.toInt_ofNat_of_lt (w := 32) (by omega)]; simp; omega
  have off : ∀ a ∈ ([0, 1, 2] : List (Fin 4)), D.offCoord (ix5 b h i k d) a = 0 := fun a ha =>
    GatherDims.offCoord_eq_zero _ _ _ fun m => ((GatherDims.mem_sKept _ _).mp m).1 (by rw [← hD]; exact ha)
  unfold Host.gather
  congr 1
  funext a
  refine Fin.ext ?_
  show D.start _ _ a + D.batchCoord _ a + D.offCoord _ a = _
  rw [GatherDims.batchCoord_eq_zero _ _ _ (by rw [← hD]; exact List.not_mem_nil)]
  match a with
  | ⟨0, _⟩ =>
    rw [off _ (by simp), GatherDims.start, dif_pos (by rw [← hD]; simp)]
    subst hD
    exact word b'.val 4 b'.isLt (by omega) _ ((congrArg idx (si 0)).trans e0)
  | ⟨1, _⟩ =>
    rw [off _ (by simp), GatherDims.start, dif_pos (by rw [← hD]; simp)]
    subst hD
    exact word h'.val 12 h'.isLt (by omega) _ ((congrArg idx (si 1)).trans e1)
  | ⟨2, _⟩ =>
    rw [off _ (by simp), GatherDims.start, dif_pos (by rw [← hD]; simp)]
    subst hD
    exact word q.val 576 q.isLt (by omega) _ ((congrArg idx (si 2)).trans e2)
  | ⟨3, _⟩ =>
    rw [GatherDims.start, dif_neg (by rw [← hD]; simp)]
    subst hD
    exact (Nat.zero_add _).trans rfl

end Cert.TopK

end
-- ==== Proof.RefAttn.lean ====
/-
  The reference program's attention at an index: the routes, their weights, the scores of the two attentions.
-/
module

public import proofs.«01_k».proof.Proof.RefVal
public import proofs.«01_k».proof.Proof.Bisect
public import proofs.«01_k».proof.Proof.TopK

@[expose] public section

set_option maxRecDepth 16384

noncomputable section

namespace Cert.ReferenceIdeal.Val

open Cert.ReferenceIdeal Cert.ReferenceIdeal.Gen Cert.ReferenceIdeal.Value
open Idealize.ShloMosaic Cert.Spec Cert.Words Cert.Math Cert.TopK

variable (V : Valuation τ sig (Elt Ideal))

/-- The row of router scores of patch `p`. -/
def sc (b : Fin 4) (p q : Fin 576) : EReal := res_main_v55 V (ix3 b p q)

/-- The `k`-th route of patch `p`. -/
def route (b : Fin 4) (p : Fin 576) (k : Fin 32) : Fin 576 := pos (sc V b p) ⟨k.val, by omega⟩

theorem values_at (b : Fin 4) (p : Fin 576) (k : Fin 32) : res_main_values V (ix3 b p k) = sc V b p (route V b p k) :=
  (topK_at 32 (by omega) (res_main_v55 V) sliceFits_S4x576x576_S4x576x32 b p k).1

theorem max_top {n : Nat} (s : Fin n → EReal) : max (Ideal.ofBits .f32 0xFF800000#32) (top s) = top s := by
  rw [c_ninf]; exact max_eq_right bot_le

theorem v62_at (b : Fin 4) (p : Fin 576) (k : Fin 32) : res_main_v62 V (ix3 b p k)
    = num (fun k => res_main_values V (ix3 b p k)) k := by
  unfold num res_main_v62
  rw [← max_top]
  unfold top
  clean_types
  pointwise

/-- Queries, keys and values by head. -/
def qR (b : Fin 4) (h : Fin 12) (i : Fin 577) (d : Fin 64) : EReal := pqkv V b i ⟨h.val * 64 + d.val, by omega⟩
def kR (b : Fin 4) (h : Fin 12) (i : Fin 577) (d : Fin 64) : EReal := pqkv V b i ⟨768 + h.val * 64 + d.val, by omega⟩
def vR (b : Fin 4) (h : Fin 12) (i : Fin 577) (d : Fin 64) : EReal := pqkv V b i ⟨1536 + h.val * 64 + d.val, by omega⟩

/-- The class token's attention scores. -/
def clsS (b : Fin 4) (h : Fin 12) (j : Fin 577) : EReal := (∑ d, qR V b h 0 d * kR V b h j d) * Ideal.ofBits .f32 0x3E000000#32

theorem v82_at (b : Fin 4) (h : Fin 12) (j : Fin 577) : res_main_v82 V (ix4 b h 0 j) = clsS V b h j := by
  unfold clsS qR kR res_main_v82
  simp only [← v74_at, ← v76_at]
  clean_types
  pointwise

theorem v89_at (b : Fin 4) (h : Fin 12) (j : Fin 577) : res_main_v89 V (ix4 b h 0 j) = num (clsS V b h) j := by
  rw [show clsS V b h = fun j => res_main_v82 V (ix4 b h 0 j) from funext fun j => (v82_at V b h j).symm]
  unfold num res_main_v89
  rw [← max_top]
  unfold top
  clean_types
  pointwise

/-- The positions that the gathers read. -/
def gidx : IVec S4x12x576x32x3 32 := (concatenate S4x12x576x32x3 4 [⟨S4x12x576x32x1, ((broadcastInDim S4x12x576x32x1 ![0, 1, 2, 3] bcast_S4x12x576x32_S4x12x576x32x1_0_1_2_3 (broadcastInDim S4x12x576x32 ![0, 1, 2, 3] bcast_S4x1x1x1_S4x12x576x32_0_1_2_3 (select (cmpi .slt (res_main_v99 V) (broadcastInDim S4x1x1x1 ![] bcast_S_S4x1x1x1 (constantI S_ 32 0#32))) (addi (res_main_v99 V) (broadcastInDim S4x1x1x1 ![] bcast_S_S4x1x1x1 (constantI S_ 32 4#32))) (res_main_v99 V)))) : (⟨S4x12x576x32x1, .i32⟩ : BufTy).Contents (Elt Ideal))⟩, ⟨S4x12x576x32x1, ((broadcastInDim S4x12x576x32x1 ![0, 1, 2, 3] bcast_S4x12x576x32_S4x12x576x32x1_0_1_2_3 (broadcastInDim S4x12x576x32 ![0, 1, 2, 3] bcast_S1x12x1x1_S4x12x576x32_0_1_2_3 (select (cmpi .slt (res_main_v101 V) (broadcastInDim S1x12x1x1 ![] bcast_S_S1x12x1x1 (constantI S_ 32 0#32))) (addi (res_main_v101 V) (broadcastInDim S1x12x1x1 ![] bcast_S_S1x12x1x1 (constantI S_ 32 12#32))) (res_main_v101 V)))) : (⟨S4x12x576x32x1, .i32⟩ : BufTy).Contents (Elt Ideal))⟩, ⟨S4x12x576x32x1, ((broadcastInDim S4x12x576x32x1 ![0, 1, 2, 3] bcast_S4x12x576x32_S4x12x576x32x1_0_1_2_3 (broadcastInDim S4x12x576x32 ![0, 1, 2, 3] bcast_S4x1x576x32_S4x12x576x32_0_1_2_3 (select (cmpi .slt (res_main_v102 V) (broadcastInDim S4x1x576x32 ![] bcast_S_S4x1x576x32 (constantI S_ 32 0#32))) (addi (res_main_v102 V) (broadcastInDim S4x1x576x32 ![] bcast_S_S4x1x576x32 (constantI S_ 32 576#32))) (res_main_v102 V)))) : (⟨S4x12x576x32x1, .i32⟩ : BufTy).Contents (Elt Ideal))⟩] concatenates_S4x12x576x32x1_S4x12x576x32x1_S4x12x576x32x1_S4x12x576x32x3_d4 : (⟨S4x12x576x32x3, .i32⟩ : BufTy).Contents (Elt Ideal))

theorem gidx0 (b : Fin 4) (h : Fin 12) (p : Fin 576) (k : Fin 32) : gidx V (ix5 b h p k 0) = BitVec.ofNat 32 b.val := by
  refine Eq.trans ?_ (wrap_nat (k := 4) (show b.val < 2 ^ 31 by omega))
  unfold gidx
  clean_types
  pointwise [res_main_v99]

theorem gidx1 (b : Fin 4) (h : Fin 12) (p : Fin 576) (k : Fin 32) : gidx V (ix5 b h p k 1) = BitVec.ofNat 32 h.val := by
  refine Eq.trans ?_ (wrap_nat (k := 12) (show h.val < 2 ^ 31 by omega))
  unfold gidx
  clean_types
  pointwise [res_main_v101]

theorem gidx2 (b : Fin 4) (h : Fin 12) (p : Fin 576) (k : Fin 32) :
    gidx V (ix5 b h p k 2) = BitVec.ofNat 32 (route V b p k).val := by
  refine Eq.trans ?_ (wrap_nat (k := 576) (show (route V b p k).val < 2 ^ 31 by omega))
  rw [show BitVec.ofNat 32 (route V b p k).val = _ from
    (topK_at 32 (by omega) (res_main_v55 V) sliceFits_S4x576x576_S4x576x32 b p k).2.symm]
  unfold gidx
  clean_types
  pointwise [res_main_v102]

/-- A gather reads the rows at the routes. -/
theorem gather_route (x : FVec Ideal S4x12x576x64 .f32) (b : Fin 4) (h : Fin 12) (p : Fin 576) (k : Fin 32) (d : Fin 64) :
    Host.gather gather_S4x12x576x64_S4x12x576x32x3_S4x12x576x32x64_4_012_n_n_012_4_11164 x (gidx V) (ix5 b h p k d)
      = x (ix4 b h (route V b p k) d) :=
  gather_at _ x (gidx V) b h p k d b h (route V b p k) (gidx0 V b h p k) (gidx1 V b h p k) (gidx2 V b h p k)

/-- A patch's attention scores at its routes. -/
def patS (b : Fin 4) (h : Fin 12) (p : Fin 576) (k : Fin 32) : EReal :=
  (∑ d, qR V b h ⟨1 + p.val, by omega⟩ d * kR V b h ⟨1 + (route V b p k).val, by omega⟩ d) * Ideal.ofBits .f32 0x3E000000#32
    + logw (fun k => sc V b p (route V b p k)) k

theorem v157_at (b : Fin 4) (h : Fin 12) (p : Fin 576) (k : Fin 32) : res_main_v157 V (ix4 b h p k) = patS V b h p k := by
  unfold patS qR kR logw res_main_v157
  rw [← gidx.eq_1 V]
  simp only [← v74_at, ← v76_at, ← values_at, ← v62_at]
  clean_types
  pointwise
  simp only [gather_route]
  pointwise

theorem v164_at (b : Fin 4) (h : Fin 12) (p : Fin 576) (k : Fin 32) : res_main_v164 V (ix4 b h p k) = num (patS V b h p) k := by
  rw [show patS V b h p = fun k => res_main_v157 V (ix4 b h p k) from funext fun k => (v157_at V b h p k).symm]
  unfold num res_main_v164
  rw [← max_top]
  unfold top
  clean_types
  pointwise

end Cert.ReferenceIdeal.Val
end
-- ==== Proof.RefOut.lean ====
/-
  The reference program's result at an index: the two attentions, the residual sum and the second half of the block.
-/
module

public import proofs.«01_k».proof.Proof.RefAttn

@[expose] public section

set_option maxRecDepth 16384

noncomputable section

namespace Cert.ReferenceIdeal.Val

open Cert.ReferenceIdeal Cert.ReferenceIdeal.Gen Cert.ReferenceIdeal.Value
open Idealize.ShloMosaic Cert.Spec Cert.Words Cert.Math Cert.TopK

variable (V : Valuation τ sig (Elt Ideal))

/-- One entry of the attention's output. -/
def attR (b : Fin 4) (h : Fin 12) (i : Fin 577) (d : Fin 64) : EReal :=
  if i.val < 1 then softR (clsS V b h) (fun j => vR V b h j d)
  else softR (patS V b h ⟨i.val - 1, by omega⟩)
    (fun k => vR V b h ⟨1 + (route V b ⟨i.val - 1, by omega⟩ k).val, by omega⟩ d)

/-- The residual sum after the attention. -/
def midR (b : Fin 4) (i : Fin 577) (j : Fin 768) : EReal :=
  A0 V (ix3 b i j) + lin (fun c : Fin 768 => attR V b ⟨c.val / 64, by omega⟩ i ⟨c.val % 64, by omega⟩)
    (fun x j => A8 V (ix2 x j)) (fun j => A9 V (ix1 j)) j

/-- The heads' outputs: the class token's row, then the patches'. -/
def headsR : FVec Ideal S4x12x577x64 .f32 := (concatenate S4x12x577x64 2 [⟨S4x12x1x64, (Host.dotGeneral (φ₁ := .f32) (φ₂ := .f32) dot_S4x12x1x577_S4x12x577x64_S4x12x1x64_3_2_2_3_01_01 none (Host.divf (res_main_v89 V) (broadcastInDim S4x12x1x577 ![0, 1, 2, 3] bcast_S4x12x1x1_S4x12x1x577_0_1_2_3 (broadcastInDim S4x12x1x1 ![0, 1, 2] bcast_S4x12x1_S4x12x1x1_0_1_2 (Host.reduceAdd (res_main_v89 V) (constant S_ .f32 0x00000000#32) reducesTo_S4x12x1x577_S4x12x1_d3 h_S_)))) (res_main_v78 V))⟩, ⟨S4x12x576x64, (Host.dotGeneral (φ₁ := .f32) (φ₂ := .f32) dot_S4x12x576x32_S4x12x576x32x64_S4x12x576x64_3_3_n_4_012_012 none (Host.divf (res_main_v164 V) (broadcastInDim S4x12x576x32 ![0, 1, 2, 3] bcast_S4x12x576x1_S4x12x576x32_0_1_2_3 (broadcastInDim S4x12x576x1 ![0, 1, 2] bcast_S4x12x576_S4x12x576x1_0_1_2 (Host.reduceAdd (res_main_v164 V) (constant S_ .f32 0x00000000#32) reducesTo_S4x12x576x32_S4x12x576_d3 h_S_)))) (Host.gather gather_S4x12x576x64_S4x12x576x32x3_S4x12x576x32x64_4_012_n_n_012_4_11164 (extractStridedSlice S4x12x576x64 ![0, 0, 1, 0] (res_main_v78 V) slices_S4x12x577x64_S4x12x576x64_0_0_1_0) (gidx V)))⟩] concatenates_S4x12x1x64_S4x12x576x64_S4x12x577x64_d2)

theorem headsR_at (b : Fin 4) (h : Fin 12) (i : Fin 577) (d : Fin 64) : headsR V (ix4 b h i d) = attR V b h i d := by
  unfold attR softR vR headsR
  clean_types
  pointwise
  by_cases hi : i.val < 1
  · rw [dif_pos hi, if_pos hi, show (⟨i.val, hi⟩ : Fin 1) = 0 from Subsingleton.elim _ _]
    simp only [v89_at, v78_at]
  · rw [dif_neg hi, if_neg hi]
    simp only [gather_route, v164_at]
    pointwise
    simp only [v78_at]

theorem v177_at (b : Fin 4) (i : Fin 577) (j : Fin 768) : res_main_v177 V (ix3 b i j) = midR V b i j := by
  unfold midR lin res_main_v177
  rw [← gidx.eq_1 V, ← headsR.eq_1 V]
  simp only [← headsR_at]
  clean_types
  pointwise

/-- The reference's result, as its run writes it. -/
def resR : FVec Ideal S4x577x768 .f32 :=
  addf (res_main_v177 V) (addf (Host.dotGeneral dot_S4x577x3072_S3072x768_S4x577x768_2_0_01_1_n_n none (mulf (mulf (broadcastInDim S4x577x3072 ![] bcast_S_S4x577x3072 (constant S_ .f32 0x3F000000#32)) (res_main_v205 V)) (Host.erfc (mulf (Host.negf (res_main_v205 V)) (broadcastInDim S4x577x3072 ![] bcast_S_S4x577x3072 (constant S_ .f32 0x3F3504F3#32))))) (A16 V)) (broadcastInDim S4x577x768 ![0, 1, 2] bcast_S1x1x768_S4x577x768_0_1_2 (broadcastInDim S1x1x768 ![2] bcast_S768_S1x1x768_2 (A17 V))))

/-- The hidden layer before its activation. -/
theorem v205_at (b : Fin 4) (i : Fin 577) (y : Fin 3072) : res_main_v205 V (ix3 b i y)
    = lin (ln (midR V b i) (fun x => A12 V (ix1 x)) (fun x => A13 V (ix1 x))) (fun x y => A14 V (ix2 x y)) (fun y => A15 V (ix1 y)) y := by
  rw [show midR V b i = fun x => res_main_v177 V (ix3 b i x) from funext fun x => (v177_at V b i x).symm]
  unfold lin ln mean res_main_v205
  clean_types
  pointwise [res_main_v183, res_main_v181]

theorem resR_at (b : Fin 4) (i : Fin 577) (j : Fin 768) : resR V (ix3 b i j)
    = tail (midR V b i) (fun x => A12 V (ix1 x)) (fun x => A13 V (ix1 x)) (fun x y => A14 V (ix2 x y)) (fun y => A15 V (ix1 y))
        (fun x y => A16 V (ix2 x y)) (fun y => A17 V (ix1 y)) j := by
  unfold tail gelu
  simp only [← v205_at, ← v177_at]
  unfold lin resR
  clean_types
  pointwise
  simp only [EReal.neg_mul, Ideal.erfc_neg]

end Cert.ReferenceIdeal.Val
end
-- ==== Proof.Mask.lean ====
/-
  What the mask says of a patch: its 32nd score exceeds its 33rd by more than the last interval's width, its first
  exceeds its 32nd by less than 23, and its 32nd is above the mask value.
-/
module

public import proofs.«01_k».proof.Proof.RefAttn
public import proofs.«01_k».proof.Proof.Gen.On_separated

@[expose] public section

set_option maxRecDepth 16384

noncomputable section

namespace Cert.ReferenceIdeal.Val

open Cert.ReferenceIdeal Cert.ReferenceIdeal.Gen Cert.ReferenceIdeal.Value
open Idealize.ShloMosaic Cert.Spec Cert.Words Cert.Math Cert.TopK

variable (V : Valuation τ sig (Elt Ideal))

/-- Both bits of a conjunction are set. -/
theorem and_ones (a b : BitVec 1) : IntOp.andi a b = 1#1 ↔ a = 1#1 ∧ b = 1#1 := by
  revert a b; decide

/-- A bit is set exactly if its proposition holds. -/
theorem ofBool_ones (b : Bool) : BitVec.ofBool b = 1#1 ↔ b = true := by cases b <;> decide

/-- The mask of the arguments. -/
def mask : IVec S4x577x768 1 :=
  Cert.On_separated.fn (F := Ideal) (A0 V) (A1 V) (A2 V) (A3 V) (A4 V) (A5 V) (A6 V) (A7 V) (A8 V) (A9 V) (A10 V) (A11 V)
    (A12 V) (A13 V) (A14 V) (A15 V) (A16 V) (A17 V)

/-- The 33 largest scores of each patch. -/
def top33 : FVec Ideal Cert.On_separated.S4x576x33 .f32 :=
  (Host.topK Cert.On_separated.S4x576x33 2 (FloatOps.cmpfTotal (F := Ideal) (φ := .f32) .gt) (res_main_v55 V)
    Cert.On_separated.Gen.sliceFits_S4x576x576_S4x576x33).1

theorem top33_at (b : Fin 4) (p : Fin 576) (k : Fin 33) : top33 V (ix3 b p k) = sc V b p (pos (sc V b p) ⟨k.val, by omega⟩) :=
  (topK_at 33 (by omega) (res_main_v55 V) Cert.On_separated.Gen.sliceFits_S4x576x576_S4x576x33 b p k).1

/-- The mask is made of the 33 largest scores of the reference's own router. -/
theorem mask_eq : mask V = Cert.On_separated.fn_part3 (F := Ideal) (top33 V)
    (shapeCast Cert.On_separated.S4x576 ((extractStridedSlice Cert.On_separated.S4x576x1 ![0, 0, 31] · Cert.On_separated.Gen.slices_S4x576x33_S4x576x1_0_0_31) (top33 V)) Cert.On_separated.Gen.shapeCasts_S4x576x1_S4x576)
    (shapeCast Cert.On_separated.S4x576 ((extractStridedSlice Cert.On_separated.S4x576x1 ![0, 0, 32] · Cert.On_separated.Gen.slices_S4x576x33_S4x576x1_0_0_32) (top33 V)) Cert.On_separated.Gen.shapeCasts_S4x576x1_S4x576) := by
  unfold mask top33 res_main_v55 res_main_v28 res_main_v37 res_main_v24 res_main_v23 res_main_v5 res_main_v3
  rfl

theorem mask_at (b : Fin 4) (i : Fin 577) (x : Fin 768) (hi : 1 ≤ i.val) (h : mask V (ix3 b i x) = 1#1) :
    Ideal.ofBits .f32 0x39B80000#32 < top33 V (ix3 b ⟨i.val - 1, by omega⟩ 31) - top33 V (ix3 b ⟨i.val - 1, by omega⟩ 32)
    ∧ top33 V (ix3 b ⟨i.val - 1, by omega⟩ 0) - top33 V (ix3 b ⟨i.val - 1, by omega⟩ 31) < Ideal.ofBits .f32 0x41B80000#32
    ∧ Ideal.ofBits .f32 0xCE6E6B28#32 < top33 V (ix3 b ⟨i.val - 1, by omega⟩ 31) := by
  rw [mask_eq] at h
  revert h
  pointwise [Cert.On_separated.fn_part3]
  rw [dif_neg (by omega)]
  simp only [and_ones, ofBool_ones, decide_eq_true_eq]
  exact fun h => ⟨h.1.1, h.1.2, h.2⟩

end Cert.ReferenceIdeal.Val
end
-- ==== Proof.Finite.lean ====
/-
  On finite arguments every intermediate value of the reference that the proof compares is a real number.
-/
module

public import proofs.«01_k».proof.Proof.RefAttn
public import proofs.«01_k».proof.Proof.Gen.Pre_finite

@[expose] public section

set_option maxRecDepth 16384

noncomputable section

namespace Cert.ReferenceIdeal.Val

open Cert.ReferenceIdeal Cert.ReferenceIdeal.Gen Cert.ReferenceIdeal.Value
open Idealize.ShloMosaic Cert.Spec Cert.Math Cert.TopK

/-- The precondition on one array: it bounds every entry's absolute value below infinity. -/
theorem finite_of {s : Shape} (x : FVec Ideal s .f32) (bc : S_.BroadcastsInDim s (![] : Fin 0 → Fin s.rank))
    (h : cmpf .olt (Host.absf x) (broadcastInDim s ![] bc (constant S_ .f32 0x7F800000#32)) = fun _ => 1#1) (i : s.Idx) :
    IsR (x i) := by
  have hb : BitVec.ofBool (decide (max (x i) (-(x i)) < Ideal.ofBits .f32 0x7F800000#32)) = 1#1 := congrFun h i
  rw [c_inf] at hb
  refine isR_of_abs_lt (of_decide_eq_true ?_)
  revert hb
  cases decide (max (x i) (-(x i)) < ⊤) <;> simp

/-- The arguments that the precondition bounds have real entries. -/
structure Real (V : Valuation τ sig (Elt Ideal)) : Prop where
  a6 : ∀ i, IsR (A6 V i)
  a7 : ∀ i, IsR (A7 V i)
  a10 : ∀ i, IsR (A10 V i)
  a11 : ∀ i, IsR (A11 V i)

/-- The precondition's four arrays of bits. -/
abbrev pre (V : Valuation τ sig (Elt Ideal)) :=
  Cert.Pre_finite.fn (F := Ideal) (A0 V) (A1 V) (A2 V) (A3 V) (A4 V) (A5 V) (A6 V) (A7 V) (A8 V) (A9 V) (A10 V) (A11 V)
    (A12 V) (A13 V) (A14 V) (A15 V) (A16 V) (A17 V)

theorem real_of (V : Valuation τ sig (Elt Ideal))
    (h : (pre V).1 = (fun _ => 1#1) ∧ (pre V).2.1 = (fun _ => 1#1) ∧ (pre V).2.2.1 = (fun _ => 1#1)
      ∧ (pre V).2.2.2 = (fun _ => 1#1)) : Real V where
  a6 := finite_of (A6 V) _ h.1
  a7 := finite_of (A7 V) _ h.2.1
  a10 := finite_of (A10 V) _ h.2.2.1
  a11 := finite_of (A11 V) _ h.2.2.2

/-! ## Closure of the operations -/

/-- The root of a sum of squares of reals is a nonnegative real. -/
theorem sq_sum {ι : Type} [Fintype ι] {f : ι → EReal} (h : ∀ i, IsR (f i)) :
    ∃ r : ℝ, 0 ≤ r ∧ (∑ i, f i * f i) = (r : EReal) := by
  choose r hr using h
  refine ⟨∑ i, r i * r i, Finset.sum_nonneg fun i _ => mul_self_nonneg _, ?_⟩
  rw [coe_sum]
  exact Finset.sum_congr rfl fun i _ => by rw [hr, EReal.coe_mul]

theorem mean_real {r : Fin 768 → EReal} (h : ∀ x, IsR (r x)) : IsR (mean r) := by
  unfold mean
  refine IsR.div (IsR.sum h) (c_768 ▸ IsR.coe _) ?_
  rw [c_768]
  exact fun h0 => by norm_num at h0

/-- Of a row with an infinite entry every difference from the mean is infinite. -/
theorem dev_inf {r : Fin 768 → EReal} (h : ∃ x, ¬ IsR (r x)) (x : Fin 768) : r x - mean r = ⊤ ∨ r x - mean r = ⊥ := by
  by_cases hb : ∃ y, r y = ⊥
  · obtain ⟨y, hy⟩ := hb
    have hm : mean r = ⊥ := by
      unfold mean
      rw [c_768, Ideal.div_coe (by norm_num), ← Finset.add_sum_erase _ _ (Finset.mem_univ y), hy, EReal.bot_add,
        EReal.bot_mul_coe_of_pos (by norm_num)]
    rw [hm]
    rcases eq_or_ne (r x) ⊥ with e | e
    · exact Or.inr (by rw [e, EReal.bot_sub])
    · exact Or.inl (by rw [sub_eq_add_neg, EReal.neg_bot, EReal.add_top_of_ne_bot e])
  · replace hb : ∀ y, r y ≠ ⊥ := not_exists.1 hb
    obtain ⟨y, hy⟩ := h
    have hy : r y = ⊤ := by
      by_contra ht
      exact hy ⟨(r y).toReal, (EReal.coe_toReal ht (hb y)).symm⟩
    have hs : ∑ z ∈ Finset.univ.erase y, r z ≠ ⊥ :=
      Finset.sum_induction r (· ≠ ⊥) (fun a b ha hb => EReal.add_ne_bot_iff.2 ⟨ha, hb⟩) EReal.zero_ne_bot fun z _ => hb z
    have hm : mean r = ⊤ := by
      unfold mean
      rw [c_768, Ideal.div_coe (by norm_num), ← Finset.add_sum_erase _ _ (Finset.mem_univ y), hy, EReal.top_add_of_ne_bot hs,
        EReal.top_mul_coe_of_pos (by norm_num)]
    exact Or.inr (by rw [hm, EReal.sub_top])

/-- A normalized row is real whatever the row: with an infinite entry the deviation is infinite, and the quotients zero. -/
theorem ln_real {r g b : Fin 768 → EReal} (hg : ∀ x, IsR (g x)) (hb : ∀ x, IsR (b x)) (x : Fin 768) :
    IsR (ln r g b x) := by
  unfold ln
  obtain ⟨ε, hε, hc⟩ := c_eps
  rw [hc, c_768]
  by_cases hr : ∀ x, IsR (r x)
  · have hm := mean_real hr
    obtain ⟨v, hv, he⟩ := sq_sum fun y => (hr y).sub hm
    rw [he, div_coe_coe (by norm_num), ← EReal.coe_add, sqrt_coe (by positivity)]
    refine ((IsR.div ((hr x).sub hm) (IsR.coe _) ?_).mul (hg x)).add (hb x)
    have : 0 < Real.sqrt (v / 768 + ε) := Real.sqrt_pos.2 (by positivity)
    exact EReal.coe_ne_zero.2 this.ne'
  · have hd := dev_inf (not_forall.1 hr)
    have hq : ∀ y, (r y - mean r) * (r y - mean r) = ⊤ := fun y => by
      rcases hd y with e | e <;> rw [e]
      · exact EReal.top_mul_top
      · exact EReal.bot_mul_bot
    have hs : ∑ y : Fin 768, (⊤ : EReal) = ⊤ := by
      rw [← Finset.add_sum_erase _ _ (Finset.mem_univ (0 : Fin 768))]
      exact EReal.top_add_of_ne_bot (Finset.sum_induction _ (· ≠ ⊥) (fun a b ha hb => EReal.add_ne_bot_iff.2 ⟨ha, hb⟩)
        EReal.zero_ne_bot fun z _ => top_ne_bot)
    have h0 : Ideal.div (r x - mean r) ⊤ = 0 := by
      unfold Ideal.div
      rw [if_neg EReal.top_ne_zero, EReal.inv_top, mul_zero]
    simp only [hq, hs]
    rw [Ideal.div_coe (by norm_num), EReal.top_mul_coe_of_pos (by norm_num), EReal.top_add_coe]
    change IsR (Ideal.div (r x - mean r) ⊤ * g x + b x)
    rw [h0, zero_mul, zero_add]
    exact hb x

theorem lin_real {n k : Nat} {r : Fin n → EReal} {w : Fin n → Fin k → EReal} {b : Fin k → EReal} (hr : ∀ x, IsR (r x))
    (hw : ∀ x j, IsR (w x j)) (hb : ∀ j, IsR (b j)) (j : Fin k) : IsR (lin r w b j) :=
  (IsR.sum fun x => (hr x).mul (hw x j)).add (hb j)

theorem c_tenth : (Ideal.ofBits .f32 0x3DCCCCCD#32 : EReal) = ((13421773 / 134217728 : ℝ) : EReal) := by
  simp [Ideal.ofBits, Ideal.ieee, -EReal.coe_mul]; norm_num

theorem c_diag : (Ideal.ofBits .f32 0xCE6E6B28#32 : EReal) = ((-1000000000 : ℝ) : EReal) := by
  simp [Ideal.ofBits, Ideal.ieee, -EReal.coe_mul]; norm_num

/-! ## The reference's values -/

variable {V : Valuation τ sig (Elt Ideal)} (hV : Real V)
include hV

theorem xnR_real (b : Fin 4) (i : Fin 577) (x : Fin 768) : IsR (xnR V b i x) :=
  ln_real (fun _ => hV.a10 _) (fun _ => hV.a11 _) x

theorem pqkv_real (b : Fin 4) (i : Fin 577) (j : Fin 2304) : IsR (pqkv V b i j) :=
  lin_real (xnR_real hV b i) (fun _ _ => hV.a6 _) (fun _ => hV.a7 _) j

theorem clsS_real (b : Fin 4) (h : Fin 12) (j : Fin 577) : IsR (clsS V b h j) :=
  (IsR.sum fun _ => (pqkv_real hV b _ _).mul (pqkv_real hV b _ _)).mul (c_eighth ▸ IsR.coe _)

theorem patS_real (b : Fin 4) (h : Fin 12) (p : Fin 576) (k : Fin 32)
    (hr : IsR (logw (fun k => sc V b p (route V b p k)) k)) : IsR (patS V b h p k) :=
  ((IsR.sum fun _ => (pqkv_real hV b _ _).mul (pqkv_real hV b _ _)).mul (c_eighth ▸ IsR.coe _)).add hr

end Cert.ReferenceIdeal.Val
end
-- ==== Proof.Match.lean ====
/-
  The kernel's attention agrees with the reference's where the mask holds: its bisection selects the reference's routes,
  and a score at minus infinity drops out of a softmax.
-/
module

public import proofs.«01_k».proof.Proof.KernelHead
public import proofs.«01_k».proof.Proof.RefOut
public import proofs.«01_k».proof.Proof.Mask
public import proofs.«01_k».proof.Proof.Finite

@[expose] public section

set_option maxRecDepth 16384

noncomputable section

namespace Cert.Match

open Idealize.ShloMosaic Cert.Spec Cert.Math Cert.TopK
open Cert.ReferenceIdeal Cert.ReferenceIdeal.Gen Cert.ReferenceIdeal.Value Cert.ReferenceIdeal.Val
open Cert.KernelIdeal.Val (hd)

/-- The kernel's router scores from its rows of projections and its padded position bias. -/
def stK (P : Fin 640 → Fin 3840 → EReal) (w : Fin 640 → Fin 640 → EReal) (i j : Fin 640) : EReal :=
  if (1 ≤ j.val ∧ j.val < 577) ∧ j ≠ i then
    (∑ x : Fin 768, nrm (fun y => P i ⟨y.val, by omega⟩) x * nrm (fun y => P j ⟨768 + y.val, by omega⟩) x + w i j)
      * ((134217728 / 13421773 : ℝ) : EReal)
  else ⊥

/-- The kernel's attention bias. -/
def biasK (P : Fin 640 → Fin 3840 → EReal) (w : Fin 640 → Fin 640 → EReal) (i j : Fin 640) : EReal :=
  if 577 ≤ i.val then 0 else if i.val = 0 then (if j.val < 577 then 0 else ⊥) else selBias (stK P w i) j

/-- The kernel's attention from its rows of projections. -/
def hdK (P : Fin 640 → Fin 3840 → EReal) (w : Fin 640 → Fin 640 → EReal) : Fin 640 → Fin 768 → EReal :=
  hd (fun i x => P i ⟨1536 + x.val, by omega⟩) (fun i x => P i ⟨2304 + x.val, by omega⟩) (fun i x => P i ⟨3072 + x.val, by omega⟩)
    (biasK P w)

/-- The kernel's rows of projections and padded position bias hold the reference's values. -/
structure Agrees (V : Valuation τ sig (Elt Ideal)) (b : Fin 4) (P : Fin 640 → Fin 3840 → EReal)
    (w : Fin 640 → Fin 640 → EReal) : Prop where
  q : ∀ (p : Fin 576) (y : Fin 768), P ⟨1 + p.val, by omega⟩ ⟨y.val, by omega⟩ = res_main_v28 V (ix3 b p y)
  k : ∀ (p : Fin 576) (y : Fin 768), P ⟨1 + p.val, by omega⟩ ⟨768 + y.val, by omega⟩ = res_main_v37 V (ix3 b p y)
  qkv : ∀ (i : Fin 577) (j : Fin 2304), P ⟨i.val, by omega⟩ ⟨1536 + j.val, by omega⟩ = pqkv V b i j
  pos : ∀ p q : Fin 576, w ⟨1 + p.val, by omega⟩ ⟨1 + q.val, by omega⟩ = A5 V (ix2 p q)

variable {V : Valuation τ sig (Elt Ideal)} {b : Fin 4} {P : Fin 640 → Fin 3840 → EReal} {w : Fin 640 → Fin 640 → EReal}

/-- Off the diagonal the two routers score alike. -/
theorem st_sc (hA : Agrees V b P w) (p q : Fin 576) (h : q ≠ p) :
    stK P w ⟨1 + p.val, by omega⟩ ⟨1 + q.val, by omega⟩ = sc V b p q := by
  have hc : (1 ≤ 1 + q.val ∧ 1 + q.val < 577) ∧ (⟨1 + q.val, by omega⟩ : Fin 640) ≠ ⟨1 + p.val, by omega⟩ :=
    ⟨by omega, fun e => h (Fin.ext (by have := congrArg Fin.val e; simp only at this; omega))⟩
  unfold stK sc
  rw [if_pos hc, v55_at, if_neg (Ne.symm h), c_tenth, Ideal.div_coe (by norm_num), one_div_div, hA.pos]
  simp only [hA.q, hA.k]

/-- The diagonal's score is below the mask value. -/
theorem sc_diag (p : Fin 576) : sc V b p p < ((-1000000000 : ℝ) : EReal) := by
  unfold sc
  rw [v55_at, if_pos rfl, c_diag, c_tenth, div_coe_coe (by norm_num), EReal.coe_lt_coe_iff]
  norm_num

/-- Where the mask holds, the kernel's selection finds the reference's routes. -/
theorem sep (hA : Agrees V b P w) (p : Fin 576) (x : Fin 768) (hm : mask V (ix3 b ⟨1 + p.val, by omega⟩ x) = 1#1) :
    Routed (stK P w ⟨1 + p.val, by omega⟩) (fun k => ⟨1 + (route V b p k).val, by omega⟩)
      (fun k => sc V b p (route V b p k)) := by
  obtain ⟨h1, h2, h3⟩ := mask_at V b ⟨1 + p.val, by omega⟩ x (by simp) hm
  have hp : (⟨1 + p.val - 1, by omega⟩ : Fin 576) = p := Fin.ext (by simp)
  simp only [hp, top33_at, c_step, c_23, c_diag] at h1 h2 h3
  replace h1 : ((23 / 65536 : ℝ) : EReal) < sc V b p (route V b p 31) - sc V b p (pos (sc V b p) ⟨32, by omega⟩) := h1
  replace h2 : sc V b p (route V b p 0) - sc V b p (route V b p 31) < ((23 : ℝ) : EReal) := h2
  replace h3 : ((-1000000000 : ℝ) : EReal) < sc V b p (route V b p 31) := h3
  have least : ∀ k, sc V b p (route V b p 31) ≤ sc V b p (route V b p k) := fun k =>
    pos_anti (s := sc V b p) (Fin.le_def.2 (show k.val ≤ 31 by omega))
  have greatest : ∀ k, sc V b p (route V b p k) ≤ sc V b p (route V b p 0) := fun k =>
    pos_anti (s := sc V b p) (Fin.le_def.2 (Nat.zero_le k.val))
  have next := pos_anti (s := sc V b p) (i := ⟨31, by omega⟩) (j := ⟨32, by omega⟩) (Fin.le_def.2 (by simp))
  replace next : sc V b p (pos (sc V b p) ⟨32, by omega⟩) ≤ sc V b p (route V b p 31) := next
  have off : ∀ k, route V b p k ≠ p := fun k e => by
    have := least k
    rw [e] at this
    exact absurd (h3.trans_le this) (not_lt.2 (sc_diag p).le)
  have val : ∀ k, stK P w ⟨1 + p.val, by omega⟩ ⟨1 + (route V b p k).val, by omega⟩ = sc V b p (route V b p k) :=
    fun k => st_sc hA p _ (off k)
  have inj : Function.Injective (fun k => (⟨1 + (route V b p k).val, by omega⟩ : Fin 640)) := fun k l e => by
    have e := congrArg Fin.val e
    have : route V b p k = route V b p l := Fin.ext (by simp only at e; omega)
    have h' : (⟨k.val, by omega⟩ : Fin 576) = ⟨l.val, by omega⟩ := pos_injective (sc V b p) this
    exact Fin.ext (Fin.mk.inj h')
  have rest : ∀ j, j ∉ Set.range (fun k => (⟨1 + (route V b p k).val, by omega⟩ : Fin 640)) →
      stK P w ⟨1 + p.val, by omega⟩ j ≤ sc V b p (pos (sc V b p) ⟨32, by omega⟩) := fun j hj => by
    by_cases hc : (1 ≤ j.val ∧ j.val < 577) ∧ j ≠ ⟨1 + p.val, by omega⟩
    · obtain ⟨⟨ha, hb⟩, hne⟩ := hc
      obtain ⟨q, hq⟩ : ∃ q : Fin 576, j = ⟨1 + q.val, by omega⟩ := ⟨⟨j.val - 1, by omega⟩, Fin.ext (by simp; omega)⟩
      have hst : stK P w ⟨1 + p.val, by omega⟩ j = sc V b p q := by
        rw [hq]
        exact st_sc hA p q fun e => hne (by rw [hq, e])
      rw [hst]
      obtain ⟨l, rfl⟩ := pos_surjective (sc V b p) q
      have hl : 32 ≤ l.val := by
        by_contra hl
        exact hj ⟨⟨l.val, by omega⟩, hq.symm⟩
      exact pos_anti (s := sc V b p) (Fin.le_def.2 hl)
    · unfold stK
      rw [if_neg hc]
      exact bot_le
  by_cases ht : sc V b p (route V b p 0) = ⊤
  · have h31 : sc V b p (route V b p 31) = ⊤ := by
      by_contra hn
      rw [ht, ← EReal.coe_toReal hn (ne_bot_of_gt h3), EReal.top_sub_coe] at h2
      exact absurd h2 (not_lt.2 le_top)
    have hall : ∀ k, sc V b p (route V b p k) = ⊤ := fun k => top_le_iff.1 (h31 ▸ least k)
    simp only [hall]
    refine routed_top inj (fun k => (val k).trans (hall k)) fun j hj => (rest j hj).trans_lt (lt_top_iff_ne_top.2 fun e => ?_)
    rw [e, EReal.sub_top] at h1
    exact absurd h1 (not_lt.2 bot_le)
  · have hr : ∀ k, ∃ r : ℝ, sc V b p (route V b p k) = (r : EReal) := fun k =>
      ⟨_, (EReal.coe_toReal (ne_top_of_le_ne_top ht (greatest k)) (ne_bot_of_gt (h3.trans_le (least k)))).symm⟩
    choose σ hσ using hr
    simp only [hσ] at h1 h2 least greatest next val ⊢
    simp only [EReal.coe_le_coe_iff, ← EReal.coe_sub, EReal.coe_lt_coe_iff] at h2 least greatest
    refine Sep.routed ⟨inj, val, least, greatest, fun j hj => (rest j hj).trans_lt ?_, h2⟩
    generalize sc V b p (pos (sc V b p) ⟨32, by omega⟩) = z at h1 next ⊢
    induction z with
    | bot => exact EReal.bot_lt_coe _
    | top => exact absurd next (not_le.2 (EReal.coe_lt_top _))
    | coe z =>
      rw [← EReal.coe_sub, EReal.coe_lt_coe_iff] at h1
      rw [EReal.coe_lt_coe_iff]
      linarith

/-- Joint projections by head: the kernel's columns against the reference's. -/
theorem col (hA : Agrees V b P w) (i : Fin 577) (j : Fin 2304) (i' : Fin 640) (j' : Fin 3840) (hi : i'.val = i.val)
    (hj : j'.val = 1536 + j.val) : P i' j' = pqkv V b i j := by
  rw [← hA.qkv]
  exact congrArg₂ P (Fin.ext hi) (Fin.ext hj)

/-- The scaled products of queries and keys agree. -/
theorem dots (hA : Agrees V b P w) (i j : Fin 577) (i' j' : Fin 640) (hi : i'.val = i.val) (hj : j'.val = j.val) (c : Fin 768) :
    (∑ e : Fin 64, P i' ⟨1536 + (64 * (c.val / 64) + e.val), by omega⟩ * P j' ⟨2304 + (64 * (c.val / 64) + e.val), by omega⟩)
      = ∑ d, qR V b ⟨c.val / 64, by omega⟩ i d * kR V b ⟨c.val / 64, by omega⟩ j d :=
  Finset.sum_congr rfl fun d _ => congrArg₂ (· * ·) (col hA i _ i' _ hi (by simp only; omega)) (col hA j _ j' _ hj (by simp only; omega))

/-- The values agree. -/
theorem vals (hA : Agrees V b P w) (j : Fin 577) (j' : Fin 640) (hj : j'.val = j.val) (c : Fin 768) :
    P j' ⟨3072 + c.val, by omega⟩ = vR V b ⟨c.val / 64, by omega⟩ j ⟨c.val % 64, by omega⟩ :=
  col hA j _ j' _ hj (by simp only; omega)

/-- The class token's row. -/
theorem hd_class (hA : Agrees V b P w) (hV : Real V) (c : Fin 768) :
    hdK P w ⟨0, by omega⟩ c = attR V b ⟨c.val / 64, by omega⟩ ⟨0, by omega⟩ ⟨c.val % 64, by omega⟩ := by
  unfold attR
  rw [if_pos (by simp)]
  refine soft_masked (n := 577) (e := fun j => ⟨j.val, by omega⟩) (by omega) (fun k l e => Fin.ext (Fin.mk.inj e))
    (fun k => ?_) (fun k => vals hA k _ rfl c) (fun j hj => ?_) (fun k => clsS_real hV b _ k) (fun k => pqkv_real hV b _ _)
  · unfold clsS biasK
    rw [if_neg (by simp), if_pos rfl, if_pos (by simp), add_zero]
    exact congrArg (· * _) (dots hA 0 k _ _ rfl rfl c)
  · unfold biasK
    rw [if_neg (by simp), if_pos rfl, if_neg fun h => hj ⟨⟨j.val, h⟩, rfl⟩, EReal.add_bot]

/-- A patch's row. -/
theorem hd_patch (hA : Agrees V b P w) (hV : Real V) (p : Fin 576) (x : Fin 768)
    (hm : mask V (ix3 b ⟨1 + p.val, by omega⟩ x) = 1#1) (c : Fin 768) :
    hdK P w ⟨1 + p.val, by omega⟩ c = attR V b ⟨c.val / 64, by omega⟩ ⟨1 + p.val, by omega⟩ ⟨c.val % 64, by omega⟩ := by
  have hs := sep hA p x hm
  unfold attR
  rw [if_neg (by simp)]
  have hp : (⟨1 + p.val - 1, by omega⟩ : Fin 576) = p := Fin.ext (by simp)
  simp only [hp]
  have hb : ∀ j, biasK P w ⟨1 + p.val, by omega⟩ j = selBias (stK P w ⟨1 + p.val, by omega⟩) j := fun j => by
    unfold biasK
    rw [if_neg (by simp only; omega), if_neg (by simp)]
  refine soft_masked (n := 32) (e := fun k => ⟨1 + (route V b p k).val, by omega⟩) (by omega) hs.inj
    (fun k => ?_) (fun k => ?_) (fun j hj => ?_)
    (fun k => patS_real hV b _ p k (hs.real k)) (fun k => pqkv_real hV b _ _)
  · unfold patS
    rw [hb, hs.bias k]
    refine congrArg (· + logw (fun k => sc V b p (route V b p k)) k) (congrArg (· * Ideal.ofBits .f32 0x3E000000#32) ?_)
    exact dots hA ⟨1 + p.val, by omega⟩ ⟨1 + (route V b p k).val, by omega⟩ ⟨1 + p.val, by omega⟩
      ⟨1 + (route V b p k).val, by omega⟩ rfl rfl c
  · exact vals hA ⟨1 + (route V b p k).val, by omega⟩ ⟨1 + (route V b p k).val, by omega⟩ rfl c
  · rw [hb, hs.off j hj, EReal.add_bot]

/-- Every row that the mask keeps. -/
theorem hd_eq (hA : Agrees V b P w) (hV : Real V) (i : Fin 577) (x : Fin 768) (hm : mask V (ix3 b i x) = 1#1) (c : Fin 768) :
    hdK P w ⟨i.val, by omega⟩ c = attR V b ⟨c.val / 64, by omega⟩ i ⟨c.val % 64, by omega⟩ := by
  obtain ⟨i, hi⟩ := i
  rcases i with _ | p
  · exact hd_class hA hV c
  · obtain ⟨q, rfl⟩ : ∃ q : Nat, p = q := ⟨p, rfl⟩
    have e : p + 1 = 1 + p := by omega
    simp only [e] at hm ⊢
    exact hd_patch hA hV ⟨p, by omega⟩ x hm c

end Cert.Match
end
-- ==== Proof.KernelOut.lean ====
/-
  The idealized kernel's result at an index, from the contents of its input buffers.
-/
module

public import proofs.«01_k».proof.Proof.KernelBias
public import proofs.«01_k».proof.Proof.Match

@[expose] public section

set_option maxRecDepth 16384

noncomputable section

namespace Cert.KernelIdeal.Val

open Cert.KernelIdeal Cert.KernelIdeal.Gen Cert.KernelIdeal.Run
open Idealize.ShloMosaic Cert.Spec Cert.Match

variable (x1 : FVec Ideal S1x640x768 .f32) (x2 : FVec Ideal S768x3840 .bf16) (x3 : FVec Ideal S1x3840 .f32)
  (x4 x5 : FVec Ideal S1x768 .f32) (x6 : FVec Ideal S640x640 .f32)

/-- The rows of the joint projection. -/
def proj (i : Fin 640) (j : Fin 3840) : EReal := lin (xn x1 x4 x5 i) (fun x j => x2 (ix2 x j)) (fun j => x3 (ix2 0 j)) j

/-- Queries, keys and values are columns of the joint projection. -/
theorem parts_at (pr : FVec Ideal S640x3840 .f32) (i : Fin 640) (x : Fin 768) :
    k0_pay4 (F := Ideal) pr x3 (ix2 i x) = k0_pay3 (F := Ideal) pr x3 (ix2 i ⟨1536 + x.val, by omega⟩)
    ∧ k0_pay5 (F := Ideal) pr x3 (ix2 i x) = k0_pay3 (F := Ideal) pr x3 (ix2 i ⟨2304 + x.val, by omega⟩)
    ∧ k0_pay6 (F := Ideal) pr x3 (ix2 i x) = k0_pay3 (F := Ideal) pr x3 (ix2 i ⟨3072 + x.val, by omega⟩) := by
  refine ⟨?_, ?_, ?_⟩ <;> pointwise [k0_pay4, k0_pay5, k0_pay6, k0_pay3]

theorem slices_heads : ∀ h : Fin 12, S640x768.Slices ![0, 64 * h.val] S640x64 := by decide

/-- The attention, its output projection and the residual sum. -/
theorem attn_at (q k v : FVec Ideal S640x768 .bf16) (st : FVec Ideal S640x640 .f32) (m0 : FVec Ideal S640x1 .f32)
    (wp : FVec Ideal S768x768 .bf16) (bp : FVec Ideal S1x768 .f32) (x : FVec Ideal S1x640x768 .f32) (i : Fin 640) (j : Fin 768) :
    attnOf q k v (biasOf st m0) (head0Of q k st m0) wp bp x (ix2 i j)
      = lin (hd (fun i x => q (ix2 i x)) (fun i x => k (ix2 i x)) (fun i x => v (ix2 i x)) (fun i j => biasOf st m0 (ix2 i j)) i)
          (fun y j => wp (ix2 y j)) (fun j => bp (ix2 0 j)) j + x (ix3 0 i j) :=
  (congrFun ((congrArg (fun e => attnOf q k v (biasOf st m0) e wp bp x) (attn_eq q k v st m0 wp bp x)).trans
    (attnOf_eq q k v (biasOf st m0) wp bp x slices_heads)) (ix2 i j)).trans
    (midC_at (fun h => headO v (headE q k (biasOf st m0) (64 * h.val) (slices_heads h)) (64 * h.val) (slices_heads h)) wp bp x i j _
      fun h d => headO_at q k v (biasOf st m0) h (slices_heads h) i d)

/-- The residual sum after the attention. -/
theorem mid_at (x7 : FVec Ideal S768x768 .bf16) (x8 : FVec Ideal S1x768 .f32) (i : Fin 640) (j : Fin 768) :
    midB (F := Ideal) x1 x2 x3 x4 x5 x6 x7 x8 (ix2 i j)
      = lin (hdK (proj x1 x2 x3 x4 x5) (fun i j => x6 (ix2 i j)) i) (fun y j => x7 (ix2 y j)) (fun j => x8 (ix2 0 j)) j
        + x1 (ix3 0 i j) := by
  have hP : ∀ i j, k0_pay3 (F := Ideal) (k0_pay2 x1 x4 x5 x2) x3 (ix2 i j) = proj x1 x2 x3 x4 x5 i j := proj_at x1 x4 x5 x2 x3
  refine (attn_at _ _ _ _ _ x7 x8 x1 i j).trans ?_
  have hq : (fun i x => k0_pay4 (F := Ideal) (k0_pay2 x1 x4 x5 x2) x3 (ix2 i x)) = fun i x => proj x1 x2 x3 x4 x5 i ⟨1536 + x.val, by omega⟩ :=
    funext fun i => funext fun x => (parts_at x3 _ i x).1.trans (hP _ _)
  have hk : (fun i x => k0_pay5 (F := Ideal) (k0_pay2 x1 x4 x5 x2) x3 (ix2 i x)) = fun i x => proj x1 x2 x3 x4 x5 i ⟨2304 + x.val, by omega⟩ :=
    funext fun i => funext fun x => (parts_at x3 _ i x).2.1.trans (hP _ _)
  have hv : (fun i x => k0_pay6 (F := Ideal) (k0_pay2 x1 x4 x5 x2) x3 (ix2 i x)) = fun i x => proj x1 x2 x3 x4 x5 i ⟨3072 + x.val, by omega⟩ :=
    funext fun i => funext fun x => (parts_at x3 _ i x).2.2.trans (hP _ _)
  have hs : ∀ i, (fun j => k0_pay7 (F := Ideal) (k0_pay2 x1 x4 x5 x2) x3 x6 (ix2 i j))
      = stK (proj x1 x2 x3 x4 x5) (fun i j => x6 (ix2 i j)) i := fun i => funext fun j => by
    rw [st_at]
    simp only [hP]
    rfl
  have hb : (fun i j => biasOf (F := Ideal) (k0_pay7 (k0_pay2 x1 x4 x5 x2) x3 x6) (k0_pay8 (k0_pay2 x1 x4 x5 x2) x3 x6) (ix2 i j))
      = biasK (proj x1 x2 x3 x4 x5) (fun i j => x6 (ix2 i j)) := funext fun i => funext fun j => by
    rw [bias_at, hs]
    rfl
  unfold hdK
  rw [hq, hk, hv, hb]

/-- The whole body. -/
theorem out_at (x7 : FVec Ideal S768x768 .bf16) (x8 x9 x10 : FVec Ideal S1x768 .f32) (x11 : FVec Ideal S768x3072 .bf16)
    (x12 : FVec Ideal S1x3072 .f32) (x13 : FVec Ideal S3072x768 .bf16) (x14 : FVec Ideal S1x768 .f32) (i : Fin 640) (j : Fin 768) :
    outB (F := Ideal) x1 x2 x3 x4 x5 x6 x7 x8 x9 x10 x11 x12 x13 x14 (ix3 0 i j)
      = tail (fun j => lin (hdK (proj x1 x2 x3 x4 x5) (fun i j => x6 (ix2 i j)) i) (fun y j => x7 (ix2 y j)) (fun j => x8 (ix2 0 j)) j
          + x1 (ix3 0 i j)) (fun x => x9 (ix2 0 x)) (fun x => x10 (ix2 0 x)) (fun x y => x11 (ix2 x y)) (fun y => x12 (ix2 0 y))
          (fun x y => x13 (ix2 x y)) (fun y => x14 (ix2 0 y)) j := by
  unfold outB
  rw [tail_at]
  simp only [mid_at]

end Cert.KernelIdeal.Val
end
-- ==== Proof.Blocks.lean ====
/-
  What the kernel's body reads at each grid point, in terms of the arguments.
-/
module

public import proofs.«01_k».proof.Proof.Run
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.KernelIdeal.Blocks

open Cert.KernelIdeal Cert.KernelIdeal.Gen Idealize.ShloMosaic

variable (m : (ℓ : Loc nD τ sig) → Buf (Elt Ideal) ℓ) (c : Dev nD) (t : Fin cfg0.N)

/-! ## The arrays that the host builds -/

/-- The three projections side by side, in the narrower format. -/
def wall (a b : FVec Ideal S768x768 .f32) (w : FVec Ideal S768x2304 .f32) : FVec Ideal S768x3840 .bf16 :=
  truncf .bf16 (concatenate S768x3840 1 [⟨S768x768, a⟩, ⟨S768x768, b⟩, ⟨S768x2304, w⟩]
    concatenates_S768x768_S768x768_S768x2304_S768x3840_d1) bitsLt_bf16_f32

/-- Their three biases, as one row. -/
def ball (a b : FVec Ideal S768 .f32) (w : FVec Ideal S2304 .f32) : FVec Ideal S1x3840 .f32 :=
  shapeCast S1x3840 (concatenate S3840 0 [⟨S768, a⟩, ⟨S768, b⟩, ⟨S2304, w⟩] concatenates_S768_S768_S2304_S3840_d0)
    shapeCasts_S3840_S1x3840

/-- The position bias, moved by one row and one column and padded with zeros. -/
def padded (p : FVec Ideal S576x576 .f32) : FVec Ideal S640x640 .f32 :=
  pad S640x640 ![1, 1] ![63, 63] ![0, 0] p (sitofp (F := Ideal) .f32 (constantI S_ 32 0#32)) pads_S576x576_S640x640_1630_1630 h_S_

theorem wall_q (a b w) (x y : Fin 768) : wall a b w (ix2 x ⟨y.val, by omega⟩) = a (ix2 x y) := by
  pointwise [wall]

theorem wall_k (a b w) (x y : Fin 768) : wall a b w (ix2 x ⟨768 + y.val, by omega⟩) = b (ix2 x y) := by
  pointwise [wall]

theorem wall_v (a b w) (x : Fin 768) (y : Fin 2304) : wall a b w (ix2 x ⟨1536 + y.val, by omega⟩) = w (ix2 x y) := by
  pointwise [wall]
  rw [dif_neg (by omega), dif_neg (by omega)]
  exact congrArg w (congrArg (ix2 x) (Fin.ext (by simp only; omega)))

theorem ball_q (a b w) (y : Fin 768) : ball a b w (ix2 0 ⟨y.val, by omega⟩) = a (ix1 y) := by
  pointwise [ball]

theorem ball_k (a b w) (y : Fin 768) : ball a b w (ix2 0 ⟨768 + y.val, by omega⟩) = b (ix1 y) := by
  pointwise [ball]

theorem ball_v (a b w) (y : Fin 2304) : ball a b w (ix2 0 ⟨1536 + y.val, by omega⟩) = w (ix1 y) := by
  pointwise [ball]
  rw [dif_neg (by omega), dif_neg (by omega)]
  exact congrArg w (congrArg ix1 (Fin.ext (by simp only; omega)))

theorem padded_at (p : FVec Ideal S576x576 .f32) (i j : Fin 576) :
    padded p (ix2 ⟨1 + i.val, by omega⟩ ⟨1 + j.val, by omega⟩) = p (ix2 i j) := by
  pointwise [padded]

/-- A vector as one row. -/
def row (a : FVec Ideal S768 .f32) : FVec Ideal S1x768 .f32 := shapeCast S1x768 a shapeCasts_S768_S1x768

theorem row_at (a : FVec Ideal S768 .f32) (x : Fin 768) : row a (ix2 0 x) = a (ix1 x) := by
  pointwise [row]

/-- A long vector as one row. -/
def row3072 (a : FVec Ideal S3072 .f32) : FVec Ideal S1x3072 .f32 := shapeCast S1x3072 a shapeCasts_S3072_S1x3072

theorem row3072_at (a : FVec Ideal S3072 .f32) (x : Fin 3072) : row3072 a (ix2 0 x) = a (ix1 x) := by
  pointwise [row3072]

/-! ## The arrays when the region is entered -/

/-- What the host left in each buffer that the kernel reads whole. -/
theorem entry :
    V m c main_v1 = (wall (m ((c.tc : Thread nD τ).loc main_arg1)) (m ((c.tc : Thread nD τ).loc main_arg3)) (m ((c.tc : Thread nD τ).loc main_arg6)) : FVec Ideal S768x3840 .bf16)
    ∧ V m c main_v3 = (ball (m ((c.tc : Thread nD τ).loc main_arg2)) (m ((c.tc : Thread nD τ).loc main_arg4)) (m ((c.tc : Thread nD τ).loc main_arg7)) : FVec Ideal S1x3840 .f32)
    ∧ V m c main_v5 = (row (m ((c.tc : Thread nD τ).loc main_arg10)) : FVec Ideal S1x768 .f32)
    ∧ V m c main_v6 = (row (m ((c.tc : Thread nD τ).loc main_arg11)) : FVec Ideal S1x768 .f32)
    ∧ V m c main_v4 = (padded (m ((c.tc : Thread nD τ).loc main_arg5)) : FVec Ideal S640x640 .f32)
    ∧ V m c main_v7 = ((m ((c.tc : Thread nD τ).loc main_arg8)) : FVec Ideal S768x768 .bf16)
    ∧ V m c main_v8 = (row (m ((c.tc : Thread nD τ).loc main_arg9)) : FVec Ideal S1x768 .f32)
    ∧ V m c main_v9 = (row (m ((c.tc : Thread nD τ).loc main_arg12)) : FVec Ideal S1x768 .f32)
    ∧ V m c main_v10 = (row (m ((c.tc : Thread nD τ).loc main_arg13)) : FVec Ideal S1x768 .f32)
    ∧ V m c main_v11 = ((m ((c.tc : Thread nD τ).loc main_arg14)) : FVec Ideal S768x3072 .bf16)
    ∧ V m c main_v12 = (row3072 (m ((c.tc : Thread nD τ).loc main_arg15)) : FVec Ideal S1x3072 .f32)
    ∧ V m c main_v13 = ((m ((c.tc : Thread nD τ).loc main_arg16)) : FVec Ideal S3072x768 .bf16)
    ∧ V m c main_v14 = (row (m ((c.tc : Thread nD τ).loc main_arg17)) : FVec Ideal S1x768 .f32) := by
  refine ⟨?_, ?_, ?_, ?_, ?_, ?_, ?_, ?_, ?_, ?_, ?_, ?_, ?_⟩ <;>
    (unfold_abbrev_sides
     simp only [hostOps0, hostOps0_1, hostOps0_2, List.flatten_cons, List.flatten_nil, List.append_nil, List.cons_append,
       List.nil_append]
     after_results
     rfl)

/-! ## The blocks -/

/-- A block at the origin of an array, of the array's own size, is read in place. -/
theorem emb_origin (w : Pipeline.Window sig grid0) (hk : w.kind = .blocked) (h0 : ∀ a, w.index t a = 0)
    (j : (w.xblock (grid0.coords t)).Idx) (a : Fin w.shape.rank) : (((w.rect t).emb j) a : ℕ) = j a := by
  rw [Pipeline.Window.rect_emb_val w t j a hk, h0 a, Nat.zero_mul, Nat.zero_add]

set_option maxHeartbeats 4000000 in
/-- What the body reads of each array but the first, at every point. -/
theorem blocks :
    (iblk m c 1 t : FVec Ideal S768x3840 .bf16) = wall (m ((c.tc : Thread nD τ).loc main_arg1)) (m ((c.tc : Thread nD τ).loc main_arg3)) (m ((c.tc : Thread nD τ).loc main_arg6))
    ∧ (iblk m c 2 t : FVec Ideal S1x3840 .f32) = ball (m ((c.tc : Thread nD τ).loc main_arg2)) (m ((c.tc : Thread nD τ).loc main_arg4)) (m ((c.tc : Thread nD τ).loc main_arg7))
    ∧ (iblk m c 3 t : FVec Ideal S1x768 .f32) = row (m ((c.tc : Thread nD τ).loc main_arg10))
    ∧ (iblk m c 4 t : FVec Ideal S1x768 .f32) = row (m ((c.tc : Thread nD τ).loc main_arg11))
    ∧ (iblk m c 5 t : FVec Ideal S640x640 .f32) = padded (m ((c.tc : Thread nD τ).loc main_arg5))
    ∧ (iblk m c 6 t : FVec Ideal S768x768 .bf16) = (m ((c.tc : Thread nD τ).loc main_arg8))
    ∧ (iblk m c 7 t : FVec Ideal S1x768 .f32) = row (m ((c.tc : Thread nD τ).loc main_arg9))
    ∧ (iblk m c 8 t : FVec Ideal S1x768 .f32) = row (m ((c.tc : Thread nD τ).loc main_arg12))
    ∧ (iblk m c 9 t : FVec Ideal S1x768 .f32) = row (m ((c.tc : Thread nD τ).loc main_arg13))
    ∧ (iblk m c 10 t : FVec Ideal S768x3072 .bf16) = (m ((c.tc : Thread nD τ).loc main_arg14))
    ∧ (iblk m c 11 t : FVec Ideal S1x3072 .f32) = row3072 (m ((c.tc : Thread nD τ).loc main_arg15))
    ∧ (iblk m c 12 t : FVec Ideal S3072x768 .bf16) = (m ((c.tc : Thread nD τ).loc main_arg16))
    ∧ (iblk m c 13 t : FVec Ideal S1x768 .f32) = row (m ((c.tc : Thread nD τ).loc main_arg17)) := by
  obtain ⟨e1, e2, e3, e4, e5, e6, e7, e8, e9, e10, e11, e12, e13⟩ := entry m c
  have whole : ∀ (w : Fin 15), w ≠ 0 → w ≠ 14 → ∀ (t : Fin cfg0.N) a, (cfg0.win w).index t a = 0 := by decide +kernel
  exact ⟨(funext fun j => congrArg (V m c main_v1) (funext fun a => Fin.ext (emb_origin t win0_1 rfl (whole 1 (by decide) (by decide) t) j a))).trans e1,
    (funext fun j => congrArg (V m c main_v3) (funext fun a => Fin.ext (emb_origin t win0_2 rfl (whole 2 (by decide) (by decide) t) j a))).trans e2,
    (funext fun j => congrArg (V m c main_v5) (funext fun a => Fin.ext (emb_origin t win0_3 rfl (whole 3 (by decide) (by decide) t) j a))).trans e3,
    (funext fun j => congrArg (V m c main_v6) (funext fun a => Fin.ext (emb_origin t win0_4 rfl (whole 4 (by decide) (by decide) t) j a))).trans e4,
    (funext fun j => congrArg (V m c main_v4) (funext fun a => Fin.ext (emb_origin t win0_5 rfl (whole 5 (by decide) (by decide) t) j a))).trans e5,
    (funext fun j => congrArg (V m c main_v7) (funext fun a => Fin.ext (emb_origin t win0_6 rfl (whole 6 (by decide) (by decide) t) j a))).trans e6,
    (funext fun j => congrArg (V m c main_v8) (funext fun a => Fin.ext (emb_origin t win0_7 rfl (whole 7 (by decide) (by decide) t) j a))).trans e7,
    (funext fun j => congrArg (V m c main_v9) (funext fun a => Fin.ext (emb_origin t win0_8 rfl (whole 8 (by decide) (by decide) t) j a))).trans e8,
    (funext fun j => congrArg (V m c main_v10) (funext fun a => Fin.ext (emb_origin t win0_9 rfl (whole 9 (by decide) (by decide) t) j a))).trans e9,
    (funext fun j => congrArg (V m c main_v11) (funext fun a => Fin.ext (emb_origin t win0_10 rfl (whole 10 (by decide) (by decide) t) j a))).trans e10,
    (funext fun j => congrArg (V m c main_v12) (funext fun a => Fin.ext (emb_origin t win0_11 rfl (whole 11 (by decide) (by decide) t) j a))).trans e11,
    (funext fun j => congrArg (V m c main_v13) (funext fun a => Fin.ext (emb_origin t win0_12 rfl (whole 12 (by decide) (by decide) t) j a))).trans e12,
    (funext fun j => congrArg (V m c main_v14) (funext fun a => Fin.ext (emb_origin t win0_13 rfl (whole 13 (by decide) (by decide) t) j a))).trans e13⟩

/-- The part of the first array's block that lies inside the array: one batch entry's rows. -/
theorem inside : ∀ (t : Fin cfg0.N) (a : Fin 3), win0_0.xsize (grid0.coords t) a = ![1, 577, 768] a := by
  decide +kernel

/-- So does the result's. -/
theorem inside14 : ∀ (t : Fin cfg0.N) (a : Fin 3), win0_14.xsize (grid0.coords t) a = ![1, 577, 768] a := by
  decide +kernel

/-- The places of those two blocks: batch entry `t`, all rows. -/
theorem at_0 : ∀ (t : Fin cfg0.N) (a : Fin 3), win0_0.index t a * win0_0.size a = ![t.val * 1, 0, 0] a := by
  decide +kernel

theorem at_14 : ∀ (t : Fin cfg0.N) (a : Fin 3), win0_14.index t a * win0_14.size a = ![t.val * 1, 0, 0] a := by
  decide +kernel

/-- The first array's block: inside the array it holds the batch entry's rows, whatever filled the buffer before. -/
theorem xin_at (d : FVec Ideal S1x640x768 .f32) (b : Fin 4) (hb : t.val = b.val) (i : Fin 577) (x : Fin 768) :
    Run.xin m c t d (ix3 0 ⟨i.val, by omega⟩ x) = ((m ((c.tc : Thread nD τ).loc main_arg0)) : FVec Ideal S4x577x768 .f32) (ix3 b i x) := by
  let y : (win0_0.xblock (grid0.coords t)).Idx := fun a => ⟨(ix3 (0 : Fin 1) i x a).val, by
    rw [show (win0_0.xblock (grid0.coords t)).size a = ![1, 577, 768] a from inside t a]; exact (ix3 (0 : Fin 1) i x a).isLt⟩
  have hy : win0_0.xinj (grid0.coords t) y = ix3 (0 : Fin 1) (⟨i.val, by omega⟩ : Fin 640) x := by
    funext a
    fin_cases a <;> rfl
  unfold Run.xin
  rw [← hy, win0_0.fill_xinj]
  refine (congrArg (V m c main_arg0) (funext fun a => Fin.ext ((Pipeline.Window.rect_emb_val win0_0 t y a).trans ?_))).trans
    (congrFun (V_main_arg0 m c) (ix3 b i x))
  rw [at_0 t a]
  fin_cases a
  · exact (Nat.add_zero _).trans ((Nat.mul_one _).trans hb)
  · exact Nat.zero_add _
  · exact Nat.zero_add _

/-- Where the result's block puts an index. -/
theorem out_at (y : (win0_14.xblock (grid0.coords t)).Idx) (b : Fin 4) (i : Fin 577) (x : Fin 768)
    (h : (win0_14.blk t).view.emb y = ix3 b i x) :
    t.val = b.val ∧ win0_14.xinj (grid0.coords t) y = ix3 (0 : Fin 1) (⟨i.val, by omega⟩ : Fin 640) x := by
  have h0 := fun a => (Pipeline.Window.rect_emb_val win0_14 t y a).symm.trans (congrArg (fun z => (z a).val) h)
  have hy : ∀ a : Fin 3, ((y a : ℕ)) = (ix3 (0 : Fin 1) i x a).val ∧ (a = 0 → t.val = b.val) := by
    intro a
    have hlt : (y a : ℕ) < ![1, 577, 768] a := (inside14 t a) ▸ (y a).isLt
    have e := h0 a
    rw [at_14 t a] at e
    fin_cases a
    · have e : t.val * 1 + (y 0 : ℕ) = b.val := e
      have hlt : (y 0 : ℕ) < 1 := hlt
      exact ⟨by change (y 0 : ℕ) = 0; omega, fun _ => by omega⟩
    · exact ⟨(Nat.zero_add _).symm.trans e, fun h => absurd h (by decide)⟩
    · exact ⟨(Nat.zero_add _).symm.trans e, fun h => absurd h (by decide)⟩
  refine ⟨(hy 0).2 rfl, funext fun a => Fin.ext ((hy a).1.trans ?_)⟩
  fin_cases a <;> rfl

end Cert.KernelIdeal.Blocks
end
-- ==== Proof.Value.lean ====
/-
  The kernel's result is the reference's wherever the mask holds.
-/
module

public import proofs.«01_k».proof.Proof.KernelOut
public import proofs.«01_k».proof.Proof.Blocks

@[expose] public section

set_option maxRecDepth 16384

noncomputable section

namespace Cert.Match

open Idealize.ShloMosaic Cert.Spec Cert.Math
open Cert.ReferenceIdeal Cert.ReferenceIdeal.Value Cert.ReferenceIdeal.Val
open Cert.KernelIdeal.Val Cert.KernelIdeal.Blocks

/-- The two programs are launched on the same arguments. -/
structure Same (m : (ℓ : Loc Cert.KernelIdeal.nD Cert.KernelIdeal.τ Cert.KernelIdeal.sig) → Buf (Elt Ideal) ℓ)
    (c : Dev Cert.KernelIdeal.nD) (V : Valuation τ sig (Elt Ideal)) : Prop where
  a0 : m ((c.tc : Thread Cert.KernelIdeal.nD Cert.KernelIdeal.τ).loc Cert.KernelIdeal.main_arg0) = A0 V
  a1 : m ((c.tc : Thread Cert.KernelIdeal.nD Cert.KernelIdeal.τ).loc Cert.KernelIdeal.main_arg1) = A1 V
  a2 : m ((c.tc : Thread Cert.KernelIdeal.nD Cert.KernelIdeal.τ).loc Cert.KernelIdeal.main_arg2) = A2 V
  a3 : m ((c.tc : Thread Cert.KernelIdeal.nD Cert.KernelIdeal.τ).loc Cert.KernelIdeal.main_arg3) = A3 V
  a4 : m ((c.tc : Thread Cert.KernelIdeal.nD Cert.KernelIdeal.τ).loc Cert.KernelIdeal.main_arg4) = A4 V
  a5 : m ((c.tc : Thread Cert.KernelIdeal.nD Cert.KernelIdeal.τ).loc Cert.KernelIdeal.main_arg5) = A5 V
  a6 : m ((c.tc : Thread Cert.KernelIdeal.nD Cert.KernelIdeal.τ).loc Cert.KernelIdeal.main_arg6) = A6 V
  a7 : m ((c.tc : Thread Cert.KernelIdeal.nD Cert.KernelIdeal.τ).loc Cert.KernelIdeal.main_arg7) = A7 V
  a8 : m ((c.tc : Thread Cert.KernelIdeal.nD Cert.KernelIdeal.τ).loc Cert.KernelIdeal.main_arg8) = A8 V
  a9 : m ((c.tc : Thread Cert.KernelIdeal.nD Cert.KernelIdeal.τ).loc Cert.KernelIdeal.main_arg9) = A9 V
  a10 : m ((c.tc : Thread Cert.KernelIdeal.nD Cert.KernelIdeal.τ).loc Cert.KernelIdeal.main_arg10) = A10 V
  a11 : m ((c.tc : Thread Cert.KernelIdeal.nD Cert.KernelIdeal.τ).loc Cert.KernelIdeal.main_arg11) = A11 V
  a12 : m ((c.tc : Thread Cert.KernelIdeal.nD Cert.KernelIdeal.τ).loc Cert.KernelIdeal.main_arg12) = A12 V
  a13 : m ((c.tc : Thread Cert.KernelIdeal.nD Cert.KernelIdeal.τ).loc Cert.KernelIdeal.main_arg13) = A13 V
  a14 : m ((c.tc : Thread Cert.KernelIdeal.nD Cert.KernelIdeal.τ).loc Cert.KernelIdeal.main_arg14) = A14 V
  a15 : m ((c.tc : Thread Cert.KernelIdeal.nD Cert.KernelIdeal.τ).loc Cert.KernelIdeal.main_arg15) = A15 V
  a16 : m ((c.tc : Thread Cert.KernelIdeal.nD Cert.KernelIdeal.τ).loc Cert.KernelIdeal.main_arg16) = A16 V
  a17 : m ((c.tc : Thread Cert.KernelIdeal.nD Cert.KernelIdeal.τ).loc Cert.KernelIdeal.main_arg17) = A17 V

variable {V : Valuation τ sig (Elt Ideal)} {b : Fin 4}

/-- A normalized row inside the array. -/
theorem xn_eq {X : FVec Ideal Cert.KernelIdeal.S1x640x768 .f32}
    (hX : ∀ (i : Fin 577) (x : Fin 768), X (ix3 0 ⟨i.val, by omega⟩ x) = A0 V (ix3 b i x)) (i : Fin 577) (i' : Fin 640)
    (hi : i' = ⟨i.val, by omega⟩) (x : Fin 768) : xn X (row (A10 V)) (row (A11 V)) i' x = xnR V b i x := by
  subst hi
  unfold xn xnR
  rw [if_pos i.isLt]
  simp only [hX, row_at]

/-- The kernel's projections and padded bias hold the reference's values. -/
theorem agrees {X : FVec Ideal Cert.KernelIdeal.S1x640x768 .f32}
    (hX : ∀ (i : Fin 577) (x : Fin 768), X (ix3 0 ⟨i.val, by omega⟩ x) = A0 V (ix3 b i x)) :
    Agrees V b (proj X (wall (A1 V) (A3 V) (A6 V)) (ball (A2 V) (A4 V) (A7 V)) (row (A10 V)) (row (A11 V)))
      (fun i j => padded (A5 V) (ix2 i j)) where
  q p y := (congrArg₂ (· + ·) (Finset.sum_congr rfl fun x _ => congrArg₂ (· * ·) (xn_eq hX ⟨1 + p.val, by omega⟩ _ rfl x)
    (wall_q _ _ _ x y)) (ball_q _ _ _ y)).trans (v28_at V b p y).symm
  k p y := (congrArg₂ (· + ·) (Finset.sum_congr rfl fun x _ => congrArg₂ (· * ·) (xn_eq hX ⟨1 + p.val, by omega⟩ _ rfl x)
    (wall_k _ _ _ x y)) (ball_k _ _ _ y)).trans (v37_at V b p y).symm
  qkv i j := congrArg₂ (· + ·) (Finset.sum_congr rfl fun x _ => congrArg₂ (· * ·) (xn_eq hX i _ rfl x) (wall_v _ _ _ x j))
    (ball_v _ _ _ j)
  pos p q := padded_at (A5 V) p q

/-- What the body stores at an index that the mask keeps. -/
theorem value {m : (ℓ : Loc Cert.KernelIdeal.nD Cert.KernelIdeal.τ Cert.KernelIdeal.sig) → Buf (Elt Ideal) ℓ}
    {c : Dev Cert.KernelIdeal.nD} (hS : Same m c V) (hV : Real V) (t : Fin Cert.KernelIdeal.cfg0.N)
    (d : FVec Ideal Cert.KernelIdeal.S1x640x768 .f32) (hb : t.val = b.val) (i : Fin 577) (x : Fin 768)
    (hm : mask V (ix3 b i x) = 1#1) :
    Cert.KernelIdeal.Run.outAt m c t d (ix3 (0 : Fin 1) (⟨i.val, by omega⟩ : Fin 640) x) = resR V (ix3 b i x) := by
  obtain ⟨e1, e2, e3, e4, e5, e6, e7, e8, e9, e10, e11, e12, e13⟩ := blocks m c t
  rw [hS.a1, hS.a3, hS.a6] at e1
  rw [hS.a2, hS.a4, hS.a7] at e2
  rw [hS.a10] at e3
  rw [hS.a11] at e4
  rw [hS.a5] at e5
  replace e6 := e6.trans hS.a8
  rw [hS.a9] at e7
  rw [hS.a12] at e8
  rw [hS.a13] at e9
  replace e10 := e10.trans hS.a14
  rw [hS.a15] at e11
  replace e12 := e12.trans hS.a16
  rw [hS.a17] at e13
  have hX : ∀ (i : Fin 577) (x : Fin 768), Cert.KernelIdeal.Run.xin m c t d (ix3 0 ⟨i.val, by omega⟩ x) = A0 V (ix3 b i x) :=
    fun i x => (xin_at m c t d b hb i x).trans (congrFun hS.a0 _)
  unfold Cert.KernelIdeal.Run.outAt
  rw [e1, e2, e3, e4, e5, e6, e7, e8, e9, e10, e11, e12, e13, Cert.KernelIdeal.Val.out_at, resR_at]
  have hh : hdK _ _ (⟨i.val, by omega⟩ : Fin 640) = _ := funext fun c => hd_eq (agrees hX) hV i x hm c
  simp only [row_at, row3072_at, hX]
  rw [hh]
  unfold midR
  simp only [add_comm (A0 V _) (lin _ _ _ _)]

end Cert.Match
end
-- ==== Proof.lean ====
/-
  The certificate: the kernel and the idealized programs keep their arguments and their counters, the idealized kernel
  differs from the kernel in the three named constants only, and the idealized kernel's result is the idealized
  reference's at every entry the mask `separated` keeps.

  `Proof/Run` and `Proof/KernelRun` run the kernel, `Proof/Value` compares its result with the reference's; here the
  pieces are joined.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.Pre_finite
public import proofs.«01_k».proof.Proof.Gen.On_separated
public import proofs.«01_k».proof.Proof.KernelRun
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem Cert.Match Cert.ReferenceIdeal.Val

/-- The kernel keeps its arguments, and its counters end at zero. -/
theorem frame_p : Cert.quiescent_Kernel := fun m g _ =>
  (θ_run Cert.Kernel.defs _ _).mono (fun _ h => ⟨fun c => Cert.Kernel.Run.args_kept m h.1 c, h.2⟩) (Cert.Kernel.Run.run m g)

/-- The idealized kernel keeps its arguments, and its counters end at zero. -/
theorem frame_pi : Cert.quiescent_KernelIdeal := fun m g _ =>
  (θ_run Cert.KernelIdeal.defs _ _).mono (fun _ h => ⟨fun c => Cert.KernelIdeal.Run.args_kept m h.1 c, h.2⟩)
    (Cert.KernelIdeal.Run.run m g)

/-- The idealized reference keeps its arguments, and its counters end at zero: it has none. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The idealized kernel differs from the kernel in three named constants. -/
theorem named : Cert.preserves_Kernel_KernelIdeal :=
  ⟨IdealRules.named_const.statement Cert.KernelIdeal.κ "inv_temp" .f32 0x41200000#32 ((134217728 / 13421773 : ℝ) : EReal) rfl,
    IdealRules.named_const.statement Cert.KernelIdeal.κ "mask30" .f32 0xF149F2CA#32 ⊥ rfl,
    IdealRules.named_const.statement Cert.KernelIdeal.κ "mask9" .f32 0xCE6E6B28#32 ⊥ rfl⟩

/-- The idealized kernel's result is the reference's at every entry the mask keeps. -/
theorem result : Cert.algebraic_KernelIdeal_ReferenceIdeal_on_separated_pre_finite := by
  intro m g m' g' hpre hagree
  have hS : ∀ c, Same m c (StableHlo.launchContents m' c) := fun c => by
    obtain ⟨h0, h1, h2, h3, h4, h5, h6, h7, h8, h9, h10, h11, h12, h13, h14, h15, h16, h17⟩ := hagree c
    exact ⟨h0.symm, h1.symm, h2.symm, h3.symm, h4.symm, h5.symm, h6.symm, h7.symm, h8.symm, h9.symm, h10.symm, h11.symm,
      h12.symm, h13.symm, h14.symm, h15.symm, h16.symm, h17.symm⟩
  have hV : ∀ c, Cert.ReferenceIdeal.Val.Real (StableHlo.launchContents m' c) := fun c => real_of _ (by
    have h := hpre c
    simp only [(hS c).a0, (hS c).a1, (hS c).a2, (hS c).a3, (hS c).a4, (hS c).a5, (hS c).a6, (hS c).a7, (hS c).a8, (hS c).a9,
      (hS c).a10, (hS c).a11, (hS c).a12, (hS c).a13, (hS c).a14, (hS c).a15, (hS c).a16, (hS c).a17] at h
    exact h)
  refine ⟨fun c => resR (StableHlo.launchContents m' c), (θ_run Cert.KernelIdeal.defs _ _).mono (fun r h c => ⟨fun i hi => ?_,
    Cert.KernelIdeal.Run.args_kept m h.1 c⟩) (Cert.KernelIdeal.Run.run m g),
    (θ_run Cert.ReferenceIdeal.defs _ _).mono (fun r h c => ⟨fun i _ => congrFun (h c).1 i, (h c).2⟩)
      (Cert.ReferenceIdeal.Value.run m' g')⟩
  rw [(hS c).a0, (hS c).a1, (hS c).a2, (hS c).a3, (hS c).a4, (hS c).a5, (hS c).a6, (hS c).a7, (hS c).a8, (hS c).a9,
    (hS c).a10, (hS c).a11, (hS c).a12, (hS c).a13, (hS c).a14, (hS c).a15, (hS c).a16, (hS c).a17] at hi
  obtain ⟨d, t, y, hy, e⟩ := Cert.KernelIdeal.Run.result_of m h.1 c i
  have ei : i = ix3 (i 0) (i 1) (i 2) := funext fun a => by fin_cases a <;> rfl
  obtain ⟨hb, ey⟩ := Cert.KernelIdeal.Blocks.out_at t y (i 0) (i 1) (i 2) (hy.trans ei)
  refine e.trans ?_
  rw [ey]
  exact (value (hS c) (hV c) t d hb (i 1) (i 2) ((congrArg (mask _) ei).symm.trans hi)).trans
    (congrArg (resR _) ei).symm

/-- The certificate. -/
theorem claim : Cert.Claim :=
  ⟨Cert.Kernel.Gen.facts, Cert.KernelIdeal.Gen.facts, Cert.ReferenceIdeal.Gen.facts, Cert.Pre_finite.Gen.facts,
    Cert.On_separated.Gen.facts, frame_p, frame_pi, fun m g _ => frame_pi m g trivial, frame_ri,
    fun m g _ => frame_ri m g trivial, named, result⟩

end Cert.Proof

end
